-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Coded (m : (ℓ : Loc Cert.Coded.nD Cert.Coded.τ Cert.Coded.sig) → Buf (Elt Bits) ℓ) : Prop :=
  True

def Pre_CodedIdeal (m : (ℓ : Loc Cert.CodedIdeal.nD Cert.CodedIdeal.τ Cert.CodedIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Coded [hCoded : Cert.Coded.Facts] : Prop :=
  ∀ (m : (ℓ : Loc Cert.Coded.nD Cert.Coded.τ Cert.Coded.sig) → Buf (Elt Bits) ℓ) (g : Dev Cert.Coded.nD → PrngReg), Pre_Coded m →
    θ_run (Cert.Coded.defs (F := Bits)) (onTc (τ := Cert.Coded.τ) (Cert.Coded.main (F := Bits))) ⟨m, fun _ => 0, g⟩ (fun r => (∀ c : Dev Cert.Coded.nD,
      r.2.mem ((c.tc : Thread Cert.Coded.nD Cert.Coded.τ).loc Cert.Coded.main_arg0) = m ((c.tc : Thread Cert.Coded.nD Cert.Coded.τ).loc Cert.Coded.main_arg0))
      ∧ r.2.sem = fun _ => 0)

def quiescent_CodedIdeal [hCodedIdeal : Cert.CodedIdeal.Facts] : Prop :=
  ∀ (m : (ℓ : Loc Cert.CodedIdeal.nD Cert.CodedIdeal.τ Cert.CodedIdeal.sig) → Buf (Elt Ideal) ℓ) (g : Dev Cert.CodedIdeal.nD → PrngReg), Pre_CodedIdeal m →
    θ_run (Cert.CodedIdeal.defs (F := Ideal)) (onTc (τ := Cert.CodedIdeal.τ) (Cert.CodedIdeal.main (F := Ideal))) ⟨m, fun _ => 0, g⟩ (fun r => (∀ c : Dev Cert.CodedIdeal.nD,
      r.2.mem ((c.tc : Thread Cert.CodedIdeal.nD Cert.CodedIdeal.τ).loc Cert.CodedIdeal.main_arg0) = m ((c.tc : Thread Cert.CodedIdeal.nD Cert.CodedIdeal.τ).loc Cert.CodedIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def preserves_Coded_CodedIdeal : Prop :=
  True

def algebraic_CodedIdeal_ReferenceIdeal [hCodedIdeal : Cert.CodedIdeal.Facts] [hReferenceIdeal : Cert.ReferenceIdeal.Facts] : Prop :=
  ∀ (m : (ℓ : Loc Cert.CodedIdeal.nD Cert.CodedIdeal.τ Cert.CodedIdeal.sig) → Buf (Elt Ideal) ℓ) (g : Dev Cert.CodedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_CodedIdeal m →
    (∀ c : Dev Cert.CodedIdeal.nD,
      m' ((c.tc : Thread Cert.ReferenceIdeal.nD Cert.ReferenceIdeal.τ).loc Cert.ReferenceIdeal.main_arg0) = m ((c.tc : Thread Cert.CodedIdeal.nD Cert.CodedIdeal.τ).loc Cert.CodedIdeal.main_arg0)) →
    ∃ (v0 : (c : Dev Cert.CodedIdeal.nD) → Buf (Elt Ideal) ((c.tc : Thread Cert.CodedIdeal.nD Cert.CodedIdeal.τ).loc Cert.CodedIdeal.main_v9)),
      θ_run (Cert.CodedIdeal.defs (F := Ideal)) (onTc (τ := Cert.CodedIdeal.τ) (Cert.CodedIdeal.main (F := Ideal))) ⟨m, fun _ => 0, g⟩ (fun r => ∀ c : Dev Cert.CodedIdeal.nD,
          r.2.mem ((c.tc : Thread Cert.CodedIdeal.nD Cert.CodedIdeal.τ).loc Cert.CodedIdeal.main_v9) = v0 c
          ∧ r.2.mem ((c.tc : Thread Cert.CodedIdeal.nD Cert.CodedIdeal.τ).loc Cert.CodedIdeal.main_arg0) = m ((c.tc : Thread Cert.CodedIdeal.nD Cert.CodedIdeal.τ).loc Cert.CodedIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hCoded : Cert.Coded.Facts) (hCodedIdeal : Cert.CodedIdeal.Facts) (hReferenceIdeal : Cert.ReferenceIdeal.Facts),
    quiescent_Kernel (hKernel := hKernel)
    ∧ quiescent_KernelIdeal (hKernelIdeal := hKernelIdeal)
    ∧ quiescent_Coded (hCoded := hCoded)
    ∧ quiescent_CodedIdeal (hCodedIdeal := hCodedIdeal)
    ∧ quiescent_ReferenceIdeal (hReferenceIdeal := hReferenceIdeal)
    ∧ preserves_Kernel_KernelIdeal
    ∧ preserves_Coded_CodedIdeal
    ∧ algebraic_CodedIdeal_ReferenceIdeal (hCodedIdeal := hCodedIdeal) (hReferenceIdeal := hReferenceIdeal)
-- ==== Kernel.lean ====
abbrev S4096x64 : Shape := ⟨2, ![4096, 64]⟩
abbrev S_ : Shape := ⟨0, ![]⟩
abbrev S64x4096 : Shape := ⟨2, ![64, 4096]⟩
abbrev S256x64 : Shape := ⟨2, ![256, 64]⟩
abbrev S64x1 : Shape := ⟨2, ![64, 1]⟩
abbrev S256x4096 : Shape := ⟨2, ![256, 4096]⟩
abbrev S64 : Shape := ⟨1, ![64]⟩
abbrev S1x4096 : Shape := ⟨2, ![1, 4096]⟩
abbrev S256x1 : Shape := ⟨2, ![256, 1]⟩
abbrev S256 : Shape := ⟨1, ![256]⟩
abbrev S1x1 : Shape := ⟨2, ![1, 1]⟩

abbrev nBuf : Space → Nat
  | .hbm => 13
  | .vmem => 9
  | .smem => 0
  | _ => 0

abbrev bufTy : (tb : Table) → Fin (tcTables nBuf tb) → BufTy
  | .hbm, ⟨0, _⟩ => ⟨S4096x64, .f32⟩
  | .hbm, ⟨1, _⟩ => ⟨S4096x64, .i1⟩
  | .hbm, ⟨2, _⟩ => ⟨S_, .f32⟩
  | .hbm, ⟨3, _⟩ => ⟨S_, .f32⟩
  | .hbm, ⟨4, _⟩ => ⟨S4096x64, .f32⟩
  | .hbm, ⟨5, _⟩ => ⟨S4096x64, .f32⟩
  | .hbm, ⟨6, _⟩ => ⟨S4096x64, .i1⟩
  | .hbm, ⟨7, _⟩ => ⟨S4096x64, .f32⟩
  | .hbm, ⟨8, _⟩ => ⟨S64x4096, .f32⟩
  | .hbm, ⟨9, _⟩ => ⟨S64x4096, .f32⟩
  | .hbm, ⟨10, _⟩ => ⟨S4096x64, .f32⟩
  | .hbm, ⟨11, _⟩ => ⟨S64x4096, .f32⟩
  | .hbm, ⟨12, _⟩ => ⟨S4096x64, .f32⟩
  | .local _ .vmem, ⟨0, _⟩ => ⟨S256x64, .f32⟩
  | .local _ .vmem, ⟨1, _⟩ => ⟨S256x64, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S64x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v59 : Index := Scalar.indexCast arg8
  let c0_33 : Index := 0#32
  ![v59.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let v196 : Index := Scalar.indexCast arg8
  let c0_67 : Index := 0#32
  ![v196.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Coded.lean ====
abbrev S4096x64 : Shape := ⟨2, ![4096, 64]⟩
abbrev S_ : Shape := ⟨0, ![]⟩
abbrev S64x4096 : Shape := ⟨2, ![64, 4096]⟩
abbrev S256x64 : Shape := ⟨2, ![256, 64]⟩
abbrev S64x1 : Shape := ⟨2, ![64, 1]⟩
abbrev S256x4096 : Shape := ⟨2, ![256, 4096]⟩
abbrev S64 : Shape := ⟨1, ![64]⟩
abbrev S1x4096 : Shape := ⟨2, ![1, 4096]⟩
abbrev S256x1 : Shape := ⟨2, ![256, 1]⟩
abbrev S256 : Shape := ⟨1, ![256]⟩
abbrev S1x1 : Shape := ⟨2, ![1, 1]⟩

abbrev nBuf : Space → Nat
  | .hbm => 15
  | .vmem => 9
  | .smem => 0
  | _ => 0

abbrev bufTy : (tb : Table) → Fin (tcTables nBuf tb) → BufTy
  | .hbm, ⟨0, _⟩ => ⟨S4096x64, .f32⟩
  | .hbm, ⟨1, _⟩ => ⟨S_, .f32⟩
  | .hbm, ⟨2, _⟩ => ⟨S4096x64, .f32⟩
  | .hbm, ⟨3, _⟩ => ⟨S4096x64, .i1⟩
  | .hbm, ⟨4, _⟩ => ⟨S_, .f32⟩
  | .hbm, ⟨5, _⟩ => ⟨S_, .f32⟩
  | .hbm, ⟨6, _⟩ => ⟨S4096x64, .f32⟩
  | .hbm, ⟨7, _⟩ => ⟨S4096x64, .f32⟩
  | .hbm, ⟨8, _⟩ => ⟨S4096x64, .i1⟩
  | .hbm, ⟨9, _⟩ => ⟨S4096x64, .f32⟩
  | .hbm, ⟨10, _⟩ => ⟨S64x4096, .f32⟩
  | .hbm, ⟨11, _⟩ => ⟨S64x4096, .f32⟩
  | .hbm, ⟨12, _⟩ => ⟨S4096x64, .f32⟩
  | .hbm, ⟨13, _⟩ => ⟨S64x4096, .f32⟩
  | .hbm, ⟨14, _⟩ => ⟨S4096x64, .f32⟩
  | .local _ .vmem, ⟨0, _⟩ => ⟨S256x64, .f32⟩
  | .local _ .vmem, ⟨1, _⟩ => ⟨S256x64, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S64x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v56 : BitVec 32 := Scalar.addi c0_i32 c64_i32
  let c1_i32 : BitVec 32 := 1#32
  ⟨c0_i32, v56, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v60 : Index := Scalar.indexCast arg8
  let c0_34 : Index := 0#32
  ![v60.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let v197 : Index := Scalar.indexCast arg8
  let c0_68 : Index := 0#32
  ![v197.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x64 : Shape := ⟨2, ![4096, 64]⟩
abbrev S_ : Shape := ⟨0, ![]⟩
abbrev S64x4096 : Shape := ⟨2, ![64, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S64 : Shape := ⟨1, ![64]⟩
abbrev S64x1x4096 : Shape := ⟨3, ![64, 1, 4096]⟩
abbrev S1x4096x4096 : Shape := ⟨3, ![1, 4096, 4096]⟩
abbrev S64x4096x4096 : Shape := ⟨3, ![64, 4096, 4096]⟩
abbrev S64x4096x5 : Shape := ⟨3, ![64, 4096, 5]⟩
abbrev S64x4096x5x1 : Shape := ⟨4, ![64, 4096, 5, 1]⟩
abbrev S64x1 : Shape := ⟨2, ![64, 1]⟩

abbrev nBuf : Space → Nat
  | .hbm => 106
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S_, .f32⟩
  | .hbm, ⟨2, _⟩ => ⟨S4096x64, .f32⟩
  | .hbm, ⟨3, _⟩ => ⟨S4096x64, .i1⟩
  | .hbm, ⟨4, _⟩ => ⟨S4096x64, .i1⟩
  | .hbm, ⟨5, _⟩ => ⟨S4096x64, .f32⟩
  | .hbm, ⟨6, _⟩ => ⟨S_, .f32⟩
  | .hbm, ⟨7, _⟩ => ⟨S_, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S64x4096, .f32⟩
  | .hbm, ⟨12, _⟩ => ⟨S4096x4096, .f32⟩
  | .hbm, ⟨13, _⟩ => ⟨S64x4096, .f32⟩
  | .hbm, ⟨14, _⟩ => ⟨S4096x4096, .f32⟩
  | .hbm, ⟨15, _⟩ => ⟨S4096x4096, .f32⟩
  | .hbm, ⟨16, _⟩ => ⟨S64x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S64x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .i1⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096, .i32⟩
  | .hbm, ⟨42, _⟩ => ⟨S4096x1, .i32⟩
  | .hbm, ⟨43, _⟩ => ⟨S1x4096, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S64x4096, .f32⟩
  | .hbm, ⟨60, _⟩ => ⟨S64x1x4096, .f32⟩
  | .hbm, ⟨61, _⟩ => ⟨S_, .f32⟩
  | .hbm, ⟨62, _⟩ => ⟨S64x1x4096, .f32⟩
  | .hbm, ⟨63, _⟩ => ⟨S64x1x4096, .i1⟩
  | .hbm, ⟨64, _⟩ => ⟨S1x4096x4096, .f32⟩
  | .hbm, ⟨65, _⟩ => ⟨S_, .f32⟩
  | .hbm, ⟨66, _⟩ => ⟨S_, .f32⟩
  | .hbm, ⟨67, _⟩ => ⟨S64x4096x4096, .i1⟩
  | .hbm, ⟨68, _⟩ => ⟨S64x4096x4096, .f32⟩
  | .hbm, ⟨69, _⟩ => ⟨S64x4096x4096, .f32⟩
  | .hbm, ⟨70, _⟩ => ⟨S64x4096x4096, .f32⟩
  | .hbm, ⟨71, _⟩ => ⟨S64x4096x4096, .f32⟩
  | .hbm, ⟨72, _⟩ => ⟨S64x4096x5, .f32⟩
  | .hbm, ⟨73, _⟩ => ⟨S64x4096x5, .i32⟩
  | .hbm, ⟨74, _⟩ => ⟨S64x4096x5, .f32⟩
  | .hbm, ⟨75, _⟩ => ⟨S_, .f32⟩
  | .hbm, ⟨76, _⟩ => ⟨S64x4096x5, .f32⟩
  | .hbm, ⟨77, _⟩ => ⟨S64x4096x5, .i1⟩
  | .hbm, ⟨78, _⟩ => ⟨S64x4096x5, .f32⟩
  | .hbm, ⟨79, _⟩ => ⟨S64x4096, .f32⟩
  | .hbm, ⟨80, _⟩ => ⟨S_, .i32⟩
  | .hbm, ⟨81, _⟩ => ⟨S64x4096x5, .i32⟩
  | .hbm, ⟨82, _⟩ => ⟨S64x4096x5, .i1⟩
  | .hbm, ⟨83, _⟩ => ⟨S_, .i32⟩
  | .hbm, ⟨84, _⟩ => ⟨S64x4096x5, .i32⟩
  | .hbm, ⟨85, _⟩ => ⟨S64x4096x5, .i32⟩
  | .hbm, ⟨86, _⟩ => ⟨S64x4096x5, .i32⟩
  | .hbm, ⟨87, _⟩ => ⟨S64x4096x5x1, .i32⟩
  | .hbm, ⟨88, _⟩ => ⟨S64x4096x5, .f32⟩
  | .hbm, ⟨89, _⟩ => ⟨S_, .f32⟩
  | .hbm, ⟨90, _⟩ => ⟨S64x4096, .f32⟩
  | .hbm, ⟨91, _⟩ => ⟨S_, .f32⟩
  | .hbm, ⟨92, _⟩ => ⟨S64x4096, .f32⟩
  | .hbm, ⟨93, _⟩ => ⟨S64x4096, .i1⟩
  | .hbm, ⟨94, _⟩ => ⟨S64x4096x5, .f32⟩
  | .hbm, ⟨95, _⟩ => ⟨S_, .f32⟩
  | .hbm, ⟨96, _⟩ => ⟨S64x4096, .f32⟩
  | .hbm, ⟨97, _⟩ => ⟨S_, .f32⟩
  | .hbm, ⟨98, _⟩ => ⟨S64x4096, .f32⟩
  | .hbm, ⟨99, _⟩ => ⟨S64x4096, .f32⟩
  | .hbm, ⟨100, _⟩ => ⟨S64x4096, .f32⟩
  | .hbm, ⟨101, _⟩ => ⟨S64x1, .f32⟩
  | .hbm, ⟨102, _⟩ => ⟨S64x4096, .f32⟩
  | .hbm, ⟨103, _⟩ => ⟨S64x4096, .f32⟩
  | .hbm, ⟨104, _⟩ => ⟨S4096x64, .f32⟩
  | .hbm, ⟨105, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_call2_v0 : Ref sig .tc := ⟨.hbm, 48, rfl⟩
abbrev main_call2_v1 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_v45 : Ref sig .tc := ⟨.hbm, 70, rfl⟩
abbrev main_v46 : Ref sig .tc := ⟨.hbm, 71, rfl⟩
abbrev main_values : Ref sig .tc := ⟨.hbm, 72, rfl⟩
abbrev main_indices : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_cst_18 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call4_v0 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]
-- ==== Proof.Rounds.lean ====
/-
  The kernel's five rounds on a block of rows, as one function applied five times: the printed payloads of the loop body
  are these functions (by unfolding), for any reading of the floats.
-/
module

public import proofs.«01_k».proof.Proof.Gen.CodedIdeal.Skeleton

@[expose] public section

noncomputable section

namespace Cert.CodedIdeal.Rounds

open Cert.CodedIdeal Cert.CodedIdeal.Gen Idealize.ShloMosaic

variable {F : FTy → Type} [FloatOps F]

/-- The least distance of every row. -/
def rowLow (D : FVec F S256x4096 .f32) : FVec F S256x1 .f32 :=
  shapeCast S256x1 (multiReduction .minimumf [1] S256 D 0x7F800000#32 reduces_S256x4096_S256 (.inl rfl) rfl) shapeCasts_S256_S256x1

/-- Column positions. -/
def lane : IVec S256x4096 32 := iota .tc S256x4096 32 [1] iota_S256x4096_d1_w32

/-- The position of the least distance where the row holds it, 4096 elsewhere. -/
def places (D : FVec F S256x4096 .f32) : IVec S256x4096 32 :=
  select (cmpf .oeq D (broadcastTo S256x4096 (rowLow D) broadcasts_S256x1_S256x4096)) lane (broadcast S256x4096 4096#32)

/-- The first position of every row that holds the row's least distance, marked. -/
def rowFirst (D : FVec F S256x4096 .f32) : IVec S256x4096 1 :=
  cmpi .eq lane (broadcastTo S256x4096 (shapeCast S256x1
    (multiReductionI .minsi [1] S256 (places D) 2147483647#32 reduces_S256x4096_S256 rfl) shapeCasts_S256_S256x1) broadcasts_S256x1_S256x4096)

/-- The weight of every row's least distance: zero where it is not a number the mean may use. -/
def rowWeight (x : FVec F S256x1 .f32) : FVec F S256x1 .f32 :=
  sitofp .f32 (extui 32 (xori (weird x) (constantI S256x1 1 1#1)) natLt_1_32)

/-- The values of the row `v` at the marked positions. -/
def rowPick (h : IVec S256x4096 1) (v : FVec F S1x4096 .f32) : FVec F S256x1 .f32 :=
  shapeCast S256x1 (multiReduction .add [1] S256
    (select h (broadcastTo S256x4096 (shapeCast S1x4096 v shapeCasts_S1x4096_S1x4096) broadcasts_S1x4096_S256x4096)
      (broadcast S256x4096 (Scalar.ofBits .f32 0x00000000#32))) 0x00000000#32 reduces_S256x4096_S256 (.inl rfl) rfl) shapeCasts_S256_S256x1

/-- One round: the marked positions become infinite. -/
def rowRound (D : FVec F S256x4096 .f32) : FVec F S256x4096 .f32 :=
  select (rowFirst D) (broadcast S256x4096 (Scalar.ofBits .f32 0x7F800000#32)) D

/-- What one round adds to the sum of values. -/
def gain (D : FVec F S256x4096 .f32) (v : FVec F S1x4096 .f32) : FVec F S256x1 .f32 :=
  mulf (rowPick (rowFirst D) v) (rowWeight (rowLow D))

/-- The sum of the values that five rounds take. -/
def rowSum (D : FVec F S256x4096 .f32) (v : FVec F S1x4096 .f32) : FVec F S256x1 .f32 :=
  addf (addf (addf (addf (addf (broadcast S256x1 (Scalar.ofBits .f32 0x00000000#32)) (gain D v)) (gain (rowRound D) v))
    (gain (rowRound (rowRound D)) v)) (gain (rowRound (rowRound (rowRound D))) v)) (gain (rowRound (rowRound (rowRound (rowRound D)))) v)

/-- The sum of the weights of five rounds. -/
def rowCount (D : FVec F S256x4096 .f32) : FVec F S256x1 .f32 :=
  addf (addf (addf (addf (addf (broadcast S256x1 (Scalar.ofBits .f32 0x00000000#32)) (rowWeight (rowLow D))) (rowWeight (rowLow (rowRound D))))
    (rowWeight (rowLow (rowRound (rowRound D))))) (rowWeight (rowLow (rowRound (rowRound (rowRound D))))))
    (rowWeight (rowLow (rowRound (rowRound (rowRound (rowRound D))))))

/-- One trip's payload: column `j` of the accumulator gets the mean of five rounds on the distances to the rows that the
    column's row `o` of flags admits, or the column's mean `μ`. -/
def trip (j : BitVec 32) (D : FVec F S256x4096 .f32) (o v : Vec F S1x4096 .f32) (μ : Vec F S1x1 .f32) (acc : Vec F S256x64 .f32) :
    FVec F S256x64 .f32 :=
  let E : FVec F S256x4096 .f32 := k0_pay7 D (Scalar.ofBits .f32 0x7F800000#32) o
  let w : FVec F S1x4096 .f32 := shapeCast S1x4096 v shapeCasts_S1x4096_S1x4096
  k0_pay4 j (rowSum E w) (rowCount E) μ (cmpf .ogt (rowCount E) (broadcast S256x1 (Scalar.ofBits .f32 0x00000000#32)))
    (Scalar.ofBits .f32 0x3F800000#32) acc

/-- Plus infinity, as the loop body names it. -/
abbrev inf : F .f32 := Scalar.ofBits .f32 0x7F800000#32

variable (D : FVec F S256x4096 .f32) (o v : Vec F S1x4096 .f32)

/-- The loop body's distances before the first round, after one and after three rounds, and what it carries with them. -/
abbrev dist0 : FVec F S256x4096 .f32 := k0_pay7 D inf o
abbrev dist1 : FVec F S256x4096 .f32 := k0_pay13 lane D inf o
abbrev places1 : IVec S256x4096 32 := k0_pay15 lane D inf o
abbrev low1 : FVec F S256x1 .f32 := k0_pay14 lane D inf o
abbrev dist3 : FVec F S256x4096 .f32 := k0_pay24 lane inf (dist1 D o) (places1 D o)
abbrev least3 : IVec S256x4096 1 := k0_pay26 lane inf (dist1 D o) (places1 D o)
abbrev low3 : FVec F S256x1 .f32 := k0_pay25 lane inf (dist1 D o) (places1 D o)

/-- The loop body's sum of values is five rounds' sum. -/
theorem sum_eq : k0_pay33 lane inf (k0_pay6 v)
      (k0_pay22 lane inf (k0_pay6 v) (k0_pay11 lane D inf o v) (dist1 D o) (low1 D o) (places1 D o))
      (dist3 D o) (low3 D o) (least3 D o) k0_pay27
    = rowSum (dist0 D o) (shapeCast S1x4096 v shapeCasts_S1x4096_S1x4096) := rfl

/-- The loop body's count is five rounds' count. -/
theorem count_eq : k0_pay34 lane inf
      (k0_pay23 lane inf (k0_pay12 D inf o) (dist1 D o) (low1 D o) (places1 D o))
      (dist3 D o) (low3 D o) (least3 D o) k0_pay27
    = rowCount (dist0 D o) := rfl

end Cert.CodedIdeal.Rounds

end
-- ==== Proof.Body.lean ====
/-
  What one grid point of the kernel leaves in its block: the loop's 64 trips, one column each, as a recursion on the
  accumulator, and the body around the loop. Nothing here depends on how floats are read.
-/
module

public import proofs.«01_k».proof.Proof.Rounds
public import proofs.«01_k».proof.Proof.Gen.CodedIdeal.Value
public import Idealize.ShloMosaic.Lib.Pipeline.Value
public import Idealize.ShloMosaic.Lib.Tactic

@[expose] public section

noncomputable section

namespace Cert.CodedIdeal.Body

open Cert.CodedIdeal Cert.CodedIdeal.Gen Cert.CodedIdeal.Rounds Idealize.ShloMosaic Idealize.ShloMosaic.TcCoe Idealize.SL.Sem

variable {F : FTy → Type} [FloatOps F]

/-- Row `k` of the flags, or of the values. -/
def rowAt (k : Fin k0_t1_loop.trips) (X : Vec F S64x4096 .f32) : Vec F S1x4096 .f32 :=
  View.ld (Val := Elt F) (e' := .f32) X (Rect.unit (s := S64x4096) (k0_off1 k) S1x4096.size (k0_off1_inb k))

/-- The mean of column `k`. -/
def meanAt (k : Fin k0_t1_loop.trips) (X : Vec F S64x1 .f32) : Vec F S1x1 .f32 :=
  View.ld (Val := Elt F) (e' := .f32) X (Rect.unit (s := S64x1) (k0_off2 k) S1x1.size (k0_off2_inb k))

/-- The whole accumulator, as one rectangle. -/
abbrev accRect : Rect S256x64 := Rect.unit (s := S256x64) ![0, 0] S256x64.size inb_S256x64_S256x64_0_0

theorem two_zeros : (![0, 0] : Fin 2 → Nat) = fun _ => 0 := by funext a; fin_cases a <;> rfl

theorem accRect_mem (y : S256x64.Idx) : y ∈ accRect.set := by
  have e : accRect = Rect.whole S256x64 := by
    unfold accRect Rect.whole; congr 1; exact two_zeros
  rw [e, Rect.set_whole]; exact Finset.mem_univ y

/-- A list of pieces that ends in one over the whole accumulator covers it. -/
theorem cover_tail (L : List (View.Piece (Elt F) S256x64 .f32)) (w : Vec F S256x64 .f32) (y : S256x64.Idx) :
    ∃ p ∈ L ++ [(⟨accRect, w⟩ : View.Piece (Elt F) S256x64 .f32)], y ∈ p.1.set :=
  ⟨⟨accRect, w⟩, List.mem_append_right _ List.mem_cons_self, accRect_mem y⟩

/-- A load of the whole accumulator after such a list reads what the list leaves. -/
theorem readCov_tail (v : View sig .tc .vmem S256x64 .f32) (L : List (View.Piece (Elt F) S256x64 .f32)) (w : Vec F S256x64 .f32) :
    v.readCov (L ++ [(⟨accRect, w⟩ : View.Piece (Elt F) S256x64 .f32)]) accRect.toLoadRect
      = View.canon (L ++ [(⟨accRect, w⟩ : View.Piece (Elt F) S256x64 .f32)]) := by
  rw [View.readCov_eq_canon_ld _ _ _ (cover_tail L w), View.ld_unit_zero (S := S256x64) two_zeros]

/-- The column means, stored whole and read back. -/
theorem read_means (v : View sig .tc .vmem S64x1 .f32) (g : BufTy.Contents (Elt F) v.ty) (w : Vec F S64x1 .f32) :
    v.read (Elt F) (v.writes (Elt F) g [(⟨Rect.unit ![0, 0] ![64, 1] inb_S64x1_S64x1_0_0, w⟩ : View.Piece (Elt F) S64x1 .f32)]) = w := by
  rw [View.read_writes_eq_canon]
  · exact View.canon_unit_zero (S := S64x1) two_zeros _ _
  · intro y
    refine ⟨_, List.mem_cons_self, ?_⟩
    have e : Rect.unit ![0, 0] ![64, 1] inb_S64x1_S64x1_0_0 = Rect.whole S64x1 := by
      unfold Rect.whole; congr 1; exact two_zeros
    show y ∈ (Rect.unit ![0, 0] ![64, 1] inb_S64x1_S64x1_0_0).set
    rw [e, Rect.set_whole]; exact Finset.mem_univ y

/-- What one trip stores: one piece, the whole accumulator, with the trip's payload. -/
theorem trip_pieces (𝒱 : Variants) (c : Dev nD) (bd : Option 𝒱.V) (i : grid0.Coords) (arg1 : Memref sig .tc .vmem S256x64 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S64x1 .f32) (harg7 : arg7.IsWhole) (v33 : FVec F S256x4096 .f32) (v34 : IVec S256x4096 32) (v36 : IVec S256x4096 32) (X2 : BufTy.Contents (Elt F) arg2.view.ty) (X4 : BufTy.Contents (Elt F) arg4.view.ty) (X7 : BufTy.Contents (Elt F) arg7.view.ty) (k : Fin k0_t1_loop.trips) (f : BufTy.Contents (Elt F) arg6.view.ty) :
    tripL_k0_t1 (F := F) 𝒱 c bd i arg1 harg1 arg2 harg2 arg3 harg3 arg4 harg4 arg5 harg5 arg6 harg6 arg7 harg7 v33 v34 v36 lane inf X2 X4 X7 k f
      = [⟨accRect, trip (Scf.iv 0#32 1#32 k) (k0_pay1 v33 v34 v36) (rowAt k (arg2.view.read (Elt F) X2)) (rowAt k (arg4.view.read (Elt F) X4))
          (meanAt k (arg7.view.read (Elt F) X7)) (arg6.view.read (Elt F) f)⟩] := by
  unfold tripL_k0_t1 trip_k0_t1
  dsimp only
  sl_unfold_words
  rw [View.readAt_eq_ld arg6.view f, View.ld_unit_zero (S := S256x64) two_zeros]
  rfl

/-- The accumulator before trip `k`: zero, then trip after trip. -/
def accAfter (D : FVec F S256x4096 .f32) (x1 x3 : Vec F S64x4096 .f32) (μ : Vec F S64x1 .f32) : ℕ → Vec F S256x64 .f32
  | 0 => k0_pay3
  | k + 1 => if h : k < k0_t1_loop.trips then
      trip (Scf.iv 0#32 1#32 k) D (rowAt ⟨k, h⟩ x1) (rowAt ⟨k, h⟩ x3) (meanAt ⟨k, h⟩ μ) (accAfter D x1 x3 μ k)
    else accAfter D x1 x3 μ k

/-- What the pieces of the first `k` trips leave, over the zeros stored before the loop. -/
theorem canon_trips (𝒱 : Variants) (c : Dev nD) (bd : Option 𝒱.V) (i : grid0.Coords) (arg1 : Memref sig .tc .vmem S256x64 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S64x1 .f32) (harg7 : arg7.IsWhole) (v33 : FVec F S256x4096 .f32) (v34 : IVec S256x4096 32) (v36 : IVec S256x4096 32) (X2 : BufTy.Contents (Elt F) arg2.view.ty) (X4 : BufTy.Contents (Elt F) arg4.view.ty) (X7 : BufTy.Contents (Elt F) arg7.view.ty) (g : BufTy.Contents (Elt F) arg6.view.ty) (k : ℕ) (hk : k ≤ k0_t1_loop.trips) :
    View.canon (pb_k0_t1 (F := F) 𝒱 c bd i arg1 harg1 arg2 harg2 arg3 harg3 arg4 harg4 arg5 harg5 arg6 harg6 arg7 harg7 v33 v34 v36 lane inf X2 X4 X7
        (arg6.view.writes (Elt F) g [⟨accRect, k0_pay3⟩]) k ++ [⟨accRect, k0_pay3⟩])
      = accAfter (k0_pay1 v33 v34 v36) (arg2.view.read (Elt F) X2) (arg4.view.read (Elt F) X4) (arg7.view.read (Elt F) X7) k := by
  induction k with
  | zero =>
    unfold pb_k0_t1
    exact View.canon_unit_zero (S := S256x64) two_zeros _ _
  | succ k ih =>
    have hlt : k < k0_t1_loop.trips := hk
    have hs := pb_k0_t1_succ (F := F) 𝒱 c bd i arg1 harg1 arg2 harg2 arg3 harg3 arg4 harg4 arg5 harg5 arg6 harg6 arg7 harg7 v33 v34 v36 lane inf X2 X4 X7
        (arg6.view.writes (Elt F) g [⟨accRect, k0_pay3⟩]) ⟨k, hlt⟩
    simp only at hs
    rw [hs, trip_pieces]
    refine (View.canon_cons_unit_zero (S := S256x64) two_zeros _ _ _).trans ?_
    rw [← View.writes_append, View.read_writes_eq_canon _ _ _ (cover_tail _ _),
      ih hlt.le]
    rw [accAfter, dif_pos hlt]

/-- The distances of one block of rows, from the printed payloads. -/
def blockDist (i : grid0.Coords) (x0 : Vec F S256x64 .f32) (x1 x2 x3 : Vec F S64x4096 .f32) : FVec F S256x4096 .f32 :=
  k0_pay1 (k0_pay40 x0 x1 x2 x3) (iota .tc S256x4096 32 [0] iota_S256x4096_d0_w32) (k0_pay41 i)

/-- The block that one grid point writes. -/
theorem block_eq (c : Dev nD) (i : grid0.Coords) (arg1 : Memref sig .tc .vmem S256x64 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S64x1 .f32) (harg7 : arg7.IsWhole)
    (x0 : Vec F S256x64 .f32) (x1 : Vec F S64x4096 .f32) (x2 : Vec F S64x4096 .f32) (x3 : Vec F S64x4096 .f32) :
    out0_A_4 c i arg1 harg1 arg2 harg2 arg3 harg3 arg4 harg4 arg5 harg5 arg6 harg6 arg7 harg7 x0 x1 x2 x3
      = k0_pay5 (k0_pay36 x0) (k0_pay37 x0)
          (accAfter (blockDist i x0 x1 x2 x3) x1 x3 (k0_pay2 (k0_pay38 x1) (k0_pay39 x3)) k0_t1_loop.trips) := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  sl_unfold_words
  rw [View.canon_unit_zero (S := S256x64) two_zeros]
  simp only [View.readAt_eq_ld, harg1.read_unread, harg2.read_unread, harg3.read_unread, harg4.read_unread]
  rw [View.ld_unit_zero (S := S256x64) two_zeros, View.ld_unit_zero (S := S64x4096) two_zeros, View.ld_unit_zero (S := S64x4096) two_zeros,
    View.ld_unit_zero (S := S64x4096) two_zeros]
  have h := canon_trips Variants.none c none i arg1 harg1 arg2 harg2 arg3 harg3 arg4 harg4 arg5 harg5 arg6 harg6 arg7 harg7 (k0_pay40 x0 x1 x2 x3) (iota .tc S256x4096 32 [0] iota_S256x4096_d0_w32) (k0_pay41 i)
    (harg2.unread x1) (harg4.unread x3) (arg7.view.writes (Elt F) arg7.view.junk
        [⟨Rect.unit ![0, 0] ![64, 1] inb_S64x1_S64x1_0_0, k0_pay2 (k0_pay38 x1) (k0_pay39 x3)⟩]) arg6.view.junk k0_t1_loop.trips le_rfl
  rw [harg2.read_unread, harg4.read_unread, read_means] at h
  exact congrArg (k0_pay5 (k0_pay36 x0) (k0_pay37 x0)) ((readCov_tail arg6.view _ k0_pay3).trans h)

end Cert.CodedIdeal.Body

end
-- ==== Proof.Selection.lean ====
/-
  Taking the nearest rows one after another, and taking them by a sort: the mathematics alone, on a row of `n`
  distances that are extended reals.

  The kernel takes the least distance, the first position that holds it, writes `⊤` there and goes on; the reference
  sorts the row stably and takes the first positions. `round_iterate` says the row after `r` rounds is the row with the
  first `r` sorted positions at `⊤`; `low_iterate` and `pick_iterate` say that round `r` sees the distance and (if that
  distance is not `⊤`) the position that the sort puts at place `r`.
-/
module

public import Idealize.ShloMosaic.PureOps.Ideal
public import Idealize.ShloMosaic.Lib.SortPrefix

@[expose] public section

noncomputable section

open Idealize.ShloMosaic

namespace Cert.Selection

variable {n : Nat}

/-- The least of the distances (`⊤` where there is none). -/
def low (d : Fin n → EReal) : EReal := Finset.univ.inf d

/-- `k` is the first position that holds the least distance. -/
def first (d : Fin n → EReal) (k : Fin n) : Prop := d k = low d ∧ ∀ k' : Fin n, k' < k → d k' ≠ low d

/-- One round: the first least distance becomes `⊤`, the others stay. -/
def round (d : Fin n → EReal) : Fin n → EReal := by
  classical exact fun k => if first d k then ⊤ else d k

/-- The value `v` at the first position that holds the least distance. -/
def pick (d v : Fin n → EReal) : EReal := by
  classical exact ∑ k, if first d k then v k else 0

/-- The weight of a distance: one, and zero for `⊤`. -/
def weight (x : EReal) : EReal := if x = ⊤ then 0 else 1

/-- The order in which the stable sort places positions: by distance, then by position. -/
def before (d : Fin n → EReal) (k k' : Fin n) : Bool := decide (d k < d k') || (decide (d k = d k') && decide (k < k'))

theorem before_strict (d : Fin n → EReal) : StrictTotalBefore (before d) := by
  classical
  have h := StrictTotalBefore.of_key_then_position (fun a b : EReal => decide (a < b)) d
    (by intro a; simp) (by intro a b c; simp only [decide_eq_true_eq]; exact lt_trans)
    (by intro a b; simp only [decide_eq_true_eq]; exact lt_trichotomy a b)
  have e : before d = fun k k' : Fin n => decide (d k < d k') || (decide (d k = d k') && decide (k < k')) := by
    funext k k'; unfold before; congr
  rw [e]
  convert h

/-- On positions in increasing order a stable sort by distance alone is the sort by distance, then by position. -/
theorem stableSort_by_distance (d : Fin n → EReal) (l : List (Fin n)) (hl : l.Pairwise (· < ·)) :
    stableSort (fun k k' => decide (d k < d k')) l = stableSort (before d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold before
    simp [not_lt.mpr hab.le]

/-- The position that the stable sort of the distances, least first, puts at a place. -/
def sorted (d : Fin n → EReal) : Fin n → Fin n := sortedFrom fun k k' => decide (d k < d k')

theorem sorted_eq (d : Fin n → EReal) : sorted d = sortedFrom (before d) := by
  funext k
  unfold sorted sortedFrom
  have e : sortPositions n (fun k k' => decide (d k < d k')) = sortPositions n (before d) :=
    stableSort_by_distance d _ (List.pairwise_lt_finRange n)
  rw [List.get_of_eq e]
  rfl

theorem sorted_surjective (d : Fin n → EReal) : Function.Surjective (sorted d) := sortedFrom_surjective _

theorem sorted_injective (d : Fin n → EReal) : Function.Injective (sorted d) := sortedFrom_injective _

/-- An earlier place holds a lesser distance, or the same distance at an earlier position. -/
theorem sorted_lt (d : Fin n → EReal) {i j : Fin n} (h : i < j) :
    d (sorted d i) < d (sorted d j) ∨ (d (sorted d i) = d (sorted d j) ∧ sorted d i < sorted d j) := by
  have hB := before_strict d
  have h1 := sortedFrom_noInversion (before d) (before d) (fun a b h => hB.asymm a b h) (fun _ _ h => h) hB.negTrans i j h
  rw [← sorted_eq] at h1
  have hne : sorted d i ≠ sorted d j := fun e => h.ne (sorted_injective d e)
  rcases hB.total _ _ hne with h2 | h2
  · unfold before at h2
    simpa only [Bool.or_eq_true, Bool.and_eq_true, decide_eq_true_eq] using h2
  · rw [h2] at h1; exact absurd h1 (by decide)

theorem sorted_le (d : Fin n → EReal) {i j : Fin n} (h : i ≤ j) : d (sorted d i) ≤ d (sorted d j) := by
  rcases h.lt_or_eq with h | h
  · rcases sorted_lt d h with h | h
    · exact h.le
    · exact h.1.le
  · rw [h]

/-- The row with the first `r` sorted positions at `⊤`. -/
def hidden (d : Fin n → EReal) (r : Nat) : Fin n → EReal := by
  classical exact fun k => if ∃ s : Fin n, s.val < r ∧ sorted d s = k then ⊤ else d k

theorem hidden_sorted (d : Fin n → EReal) (r : Nat) (t : Fin n) :
    hidden d r (sorted d t) = if t.val < r then ⊤ else d (sorted d t) := by
  unfold hidden
  by_cases h : t.val < r
  · rw [if_pos ⟨t, h, rfl⟩, if_pos h]
  · rw [if_neg h, if_neg]
    rintro ⟨s, hs, e⟩
    rw [sorted_injective d e] at hs
    exact h hs

/-- The least distance of the row with the first `r` sorted positions hidden is the one at place `r`. -/
theorem low_hidden (d : Fin n → EReal) (r : Fin n) : low (hidden d r.val) = d (sorted d r) := by
  unfold low
  apply le_antisymm
  · refine (Finset.inf_le (Finset.mem_univ (sorted d r))).trans ?_
    rw [hidden_sorted, if_neg (lt_irrefl _)]
  · refine Finset.le_inf fun k _ => ?_
    obtain ⟨t, rfl⟩ := sorted_surjective d k
    rw [hidden_sorted]
    split
    · exact le_top
    · next h => exact sorted_le d (Fin.le_def.mpr (not_lt.mp h))

/-- If that distance is not `⊤`, its first position is the sorted position at place `r`. -/
theorem first_hidden (d : Fin n → EReal) (r : Fin n) (h : d (sorted d r) ≠ ⊤) (k : Fin n) :
    first (hidden d r.val) k ↔ k = sorted d r := by
  have key : first (hidden d r.val) (sorted d r) := by
    refine ⟨by rw [low_hidden, hidden_sorted, if_neg (lt_irrefl _)], fun k' hk' => ?_⟩
    obtain ⟨t, rfl⟩ := sorted_surjective d k'
    rw [low_hidden, hidden_sorted]
    split
    · exact fun e => h e.symm
    · next ht =>
      intro e
      have hle : r ≤ t := Fin.le_def.mpr (not_lt.mp ht)
      rcases hle.lt_or_eq with hlt | heq
      · rcases sorted_lt d hlt with h1 | h1
        · exact h1.ne e.symm
        · exact lt_asymm h1.2 hk'
      · rw [heq] at hk'; exact lt_irrefl _ hk'
  constructor
  · intro hk
    rcases lt_trichotomy k (sorted d r) with hl | he | hg
    · exact absurd hk.1 (key.2 k hl)
    · exact he
    · exact absurd key.1 (hk.2 _ hg)
  · rintro rfl; exact key

/-- One more round hides one more sorted position. -/
theorem round_hidden (d : Fin n → EReal) (r : Fin n) : round (hidden d r.val) = hidden d (r.val + 1) := by
  classical
  funext k
  obtain ⟨t, rfl⟩ := sorted_surjective d k
  rw [hidden_sorted]
  unfold round
  rw [hidden_sorted]
  by_cases h : d (sorted d r) = ⊤
  · have htop : ∀ t : Fin n, ¬ t.val < r.val → d (sorted d t) = ⊤ := fun t ht =>
      top_le_iff.mp (h ▸ sorted_le d (Fin.le_def.mpr (not_lt.mp ht)))
    have e1 : (if t.val < r.val then ⊤ else d (sorted d t)) = (⊤ : EReal) := by
      split
      · rfl
      · next ht => exact htop t ht
    have e2 : (if t.val < r.val + 1 then ⊤ else d (sorted d t)) = (⊤ : EReal) := by
      split
      · rfl
      · next ht => exact htop t (fun h' => ht (Nat.lt_succ_of_lt h'))
    rw [e1, e2, ite_self]
  · simp only [first_hidden d r h]
    by_cases e : t = r
    · subst e; rw [if_pos rfl, if_pos (Nat.lt_succ_self _)]
    · rw [if_neg fun e' => e (sorted_injective d e')]
      have hv : t.val ≠ r.val := fun e' => e (Fin.ext e')
      by_cases hlt : t.val < r.val
      · rw [if_pos hlt, if_pos (Nat.lt_succ_of_lt hlt)]
      · rw [if_neg hlt, if_neg (by omega)]

/-- After `r` rounds the first `r` sorted positions are at `⊤`. -/
theorem round_iterate (d : Fin n → EReal) (r : Nat) (hr : r ≤ n) : round^[r] d = hidden d r := by
  induction r with
  | zero => funext k; simp [hidden]
  | succ r ih =>
    rw [Function.iterate_succ_apply', ih (Nat.le_of_succ_le hr)]
    exact round_hidden d ⟨r, hr⟩

/-- The least distance of round `r` is the distance at place `r` of the sort. -/
theorem low_iterate (d : Fin n → EReal) (r : Fin n) : low (round^[r.val] d) = d (sorted d r) := by
  rw [round_iterate d r.val r.isLt.le, low_hidden]

/-- The value taken in round `r`, weighed by its distance, is the value at the sorted position `r`, weighed. -/
theorem pick_iterate (d v : Fin n → EReal) (r : Fin n) :
    pick (round^[r.val] d) v * weight (low (round^[r.val] d)) = v (sorted d r) * weight (d (sorted d r)) := by
  classical
  rw [low_iterate]
  by_cases h : d (sorted d r) = ⊤
  · unfold weight; rw [if_pos h, mul_zero, mul_zero]
  · congr 1
    rw [round_iterate d r.val r.isLt.le]
    unfold pick
    simp only [first_hidden d r h]
    rw [Finset.sum_ite_eq' Finset.univ (sorted d r) v, if_pos (Finset.mem_univ _)]

/-- What five rounds put in place of a missing entry: the mean of the values taken, weighed, or the fallback `c` where
    no distance is less than `⊤`. -/
def taken (d v : Fin n → EReal) (c : EReal) : EReal :=
  let s := ((((0 + pick d v * weight (low d))
    + pick (round d) v * weight (low (round d)))
    + pick (round (round d)) v * weight (low (round (round d))))
    + pick (round (round (round d))) v * weight (low (round (round (round d)))))
    + pick (round (round (round (round d)))) v * weight (low (round (round (round (round d)))))
  let w := ((((0 + weight (low d)) + weight (low (round d))) + weight (low (round (round d))))
    + weight (low (round (round (round d))))) + weight (low (round (round (round (round d)))))
  if 0 < w then Ideal.div s (max w 1) else c

/-- What the sort's first five positions put in place of a missing entry. -/
def chosen (d v : Fin n → EReal) (σ : Fin 5 → Fin n) (c : EReal) : EReal :=
  if 0 < ∑ r, weight (d (σ r)) then Ideal.div (∑ r, v (σ r) * weight (d (σ r))) (max (∑ r, weight (d (σ r))) 1) else c

/-- Five rounds take what the stable sort's first five positions choose. -/
theorem taken_eq_chosen (d v : Fin n → EReal) (hn : 5 ≤ n) (c : EReal) :
    taken d v c = chosen d v (fun r => sorted d (r.castLE hn)) c := by
  have h0 := pick_iterate d v ((0 : Fin 5).castLE hn)
  have h1 := pick_iterate d v ((1 : Fin 5).castLE hn)
  have h2 := pick_iterate d v ((2 : Fin 5).castLE hn)
  have h3 := pick_iterate d v ((3 : Fin 5).castLE hn)
  have h4 := pick_iterate d v ((4 : Fin 5).castLE hn)
  have g0 := low_iterate d ((0 : Fin 5).castLE hn)
  have g1 := low_iterate d ((1 : Fin 5).castLE hn)
  have g2 := low_iterate d ((2 : Fin 5).castLE hn)
  have g3 := low_iterate d ((3 : Fin 5).castLE hn)
  have g4 := low_iterate d ((4 : Fin 5).castLE hn)
  simp only [Fin.val_castLE] at h0 h1 h2 h3 h4 g0 g1 g2 g3 g4
  change pick d v * weight (low d) = _ at h0
  change pick (round d) v * weight (low (round d)) = _ at h1
  change pick (round (round d)) v * weight (low (round (round d))) = _ at h2
  change pick (round (round (round d))) v * weight (low (round (round (round d)))) = _ at h3
  change pick (round (round (round (round d)))) v * weight (low (round (round (round (round d))))) = _ at h4
  change low d = _ at g0
  change low (round d) = _ at g1
  change low (round (round d)) = _ at g2
  change low (round (round (round d))) = _ at g3
  change low (round (round (round (round d)))) = _ at g4
  unfold taken chosen
  simp only [Fin.sum_univ_five, h0, h1, h2, h3, h4]
  simp only [g0, g1, g2, g3, g4, zero_add]

end Cert.Selection

end
-- ==== Proof.Spec.lean ====
/-
  The imputed table over the extended reals, entry by entry. An entry is missing when it is `⊥`. Both programs are read
  back to these functions of the table; they differ only in how the five nearest rows are found.
-/
module

public import proofs.«01_k».proof.Proof.Selection

@[expose] public section

noncomputable section

namespace Cert.Impute

open Idealize.ShloMosaic

/-- A table of 4096 rows and 64 columns. -/
abbrev Entries := Fin 4096 → Fin 64 → EReal

/-- 1 where the entry is known, 0 where it is missing. -/
def known (x : Entries) (r : Fin 4096) (c : Fin 64) : EReal := if x r c = ⊥ then 0 else 1

/-- The entry, or 0 where it is missing. -/
def value (x : Entries) (r : Fin 4096) (c : Fin 64) : EReal := if x r c = ⊥ then 0 else x r c

/-- How many columns two rows both know. -/
def overlap (x : Entries) (r s : Fin 4096) : EReal := ∑ c, known x r c * known x s c

/-- The squared difference of two rows over the columns that both know. -/
def square (x : Entries) (r s : Fin 4096) : EReal :=
  ((∑ c, (value x r c * value x r c) * known x s c) + ∑ c, known x r c * (value x s c * value x s c)) - 2 * ∑ c, value x r c * value x s c

/-- The scaled distance of two rows where they share a column. -/
def near (x : Entries) (r s : Fin 4096) : EReal :=
  if 0 < overlap x r s then Ideal.div 64 (max (overlap x r s) 1) * max (square x r s) 0 else ⊤

/-- The distance of two rows, infinite from a row to itself. -/
def dist (x : Entries) (r s : Fin 4096) : EReal := if r = s then ⊤ else near x r s

/-- The distances of one column: `⊤` where the column's flag does not admit the row. -/
def admitted (d : Fin 4096 → EReal) (o : Fin 4096 → EReal) : Fin 4096 → EReal := fun k => if 0 < o k then d k else ⊤

/-- The distances from row `r` to the rows that know column `c`. -/
def donors (x : Entries) (r : Fin 4096) (c : Fin 64) : Fin 4096 → EReal := admitted (dist x r) fun s => known x s c

/-- The mean of the known entries of column `c`. -/
def mean (x : Entries) (c : Fin 64) : EReal := Ideal.div (∑ s, value x s c) (max (∑ s, known x s c) 1)

/-- The table with its missing entries filled by five rounds of taking the nearest row. -/
def byRounds (x : Entries) (r : Fin 4096) (c : Fin 64) : EReal :=
  if x r c = ⊥ then Selection.taken (donors x r c) (fun s => value x s c) (mean x c) else value x r c

/-- The table with its missing entries filled from the first five rows of the stable sort by distance. -/
def bySort (x : Entries) (r : Fin 4096) (c : Fin 64) : EReal :=
  if x r c = ⊥ then
    Selection.chosen (donors x r c) (fun s => value x s c) (fun q => Selection.sorted (donors x r c) (q.castLE (by omega))) (mean x c)
  else value x r c

/-- Five rounds and the sort fill every entry alike. -/
theorem byRounds_eq_bySort (x : Entries) (r : Fin 4096) (c : Fin 64) : byRounds x r c = bySort x r c := by
  unfold byRounds bySort
  rw [Selection.taken_eq_chosen (hn := by omega)]

theorem known_nonneg (x : Entries) (r : Fin 4096) (c : Fin 64) : 0 ≤ known x r c := by
  unfold known; split
  · exact le_rfl
  · exact zero_le_one

theorem div_nonneg {a b : EReal} (ha : 0 ≤ a) (hb : 1 ≤ b) : 0 ≤ Ideal.div a b := by
  unfold Ideal.div
  have h0 : (0 : EReal) < b := lt_of_lt_of_le zero_lt_one hb
  rw [if_neg h0.ne']
  exact mul_nonneg ha (EReal.inv_nonneg_of_nonneg h0.le)

/-- A distance is never `⊥`. -/
theorem near_nonneg (x : Entries) (r s : Fin 4096) : 0 ≤ near x r s := by
  unfold near; split
  · exact mul_nonneg (div_nonneg (by norm_num) (le_max_right _ _)) (le_max_right _ _)
  · exact le_top

theorem dist_nonneg (x : Entries) (r s : Fin 4096) : 0 ≤ dist x r s := by
  unfold dist; split
  · exact le_top
  · exact near_nonneg x r s

theorem dist_ne_bot (x : Entries) (r s : Fin 4096) : dist x r s ≠ ⊥ := fun h => by
  have := dist_nonneg x r s
  rw [h] at this
  exact absurd this (by simp)

end Cert.Impute

end
-- ==== Proof.Words.lean ====
/-
  Small facts that both programs' readings use: which numbers the printed constants are, what a comparison's one bit says,
  what a flag is as a number, and an array of rows and columns as a table.
-/
module

public import proofs.«01_k».proof.Proof.Spec
public import Idealize.ShloMosaic.Lib.Pointwise

@[expose] public section

noncomputable section

namespace Cert.Impute

open Idealize.ShloMosaic

/-- The pattern of plus infinity denotes `⊤`. -/
theorem ofBits_inf : Ideal.ofBits .f32 0x7F800000#32 = ⊤ := by simp [Ideal.ofBits, Ideal.ieee]

/-- The pattern of minus infinity denotes `⊥`. -/
theorem ofBits_neg_inf : Ideal.ofBits .f32 0xFF800000#32 = ⊥ := by simp [Ideal.ofBits, Ideal.ieee]

theorem toInt_ofNat_small {k : Nat} (h : k ≤ 4096) : (BitVec.ofNat 32 k).toInt = k := by
  rw [BitVec.toInt_eq_toNat_of_lt] <;> rw [BitVec.toNat_ofNat, Nat.mod_eq_of_lt] <;> omega

theorem select_iff {α : Type} {b : BitVec 1} {P : Prop} [Decidable P] (h : b = 1#1 ↔ P) (x y : α) :
    Scalar.select b x y = if P then x else y := by
  unfold Scalar.select
  by_cases hP : P
  · rw [if_pos (show b = 1 from h.mpr hP), if_pos hP]
  · rw [if_neg (show ¬ b = 1 from fun hb => hP (h.mp hb)), if_neg hP]

theorem ofBool_iff (P : Prop) [Decidable P] : BitVec.ofBool (decide P) = 1#1 ↔ P := by
  by_cases h : P <;> simp [h]

/-- Two words compare equal exactly when they are. -/
theorem cmpi_eq_iff (a b : BitVec 32) : IntOp.cmpi .eq a b = 1#1 ↔ a = b := by
  unfold IntOp.cmpi
  dsimp only
  by_cases h : a = b
  · subst h; rw [beq_self_eq_true]; exact iff_of_true rfl rfl
  · rw [beq_eq_false_iff_ne.mpr h]; exact iff_of_false (by decide) h

theorem ofBits_one : Ideal.ofBits .f32 0x3F800000#32 = 1 := by
  simp [Ideal.ofBits, Ideal.ieee, -EReal.coe_mul]; norm_num
theorem ofBits_two : Ideal.ofBits .f32 0x40000000#32 = 2 := by
  simp [Ideal.ofBits, Ideal.ieee, -EReal.coe_mul]; norm_num; rfl
theorem ofBits_64 : Ideal.ofBits .f32 0x42800000#32 = 64 := by
  simp [Ideal.ofBits, Ideal.ieee, -EReal.coe_mul]; norm_num; rfl

/-- A flag of "not equal to minus infinity", read as a number. -/
theorem uflag_eq (a : EReal) :
    FloatOps.uitofp (F := Ideal) .f32 (~~~ BitVec.ofBool (decide (a = (⊥ : EReal)))) = (if a = ⊥ then (0 : EReal) else 1) := by
  by_cases h : a = ⊥
  · rw [if_pos h, decide_eq_true h]
    show (((~~~ BitVec.ofBool true).toNat : ℝ) : EReal) = 0
    have : (~~~ BitVec.ofBool true).toNat = 0 := by decide
    rw [this]; simp
  · rw [if_neg h, decide_eq_false h]
    show (((~~~ BitVec.ofBool false).toNat : ℝ) : EReal) = 1
    have : (~~~ BitVec.ofBool false).toNat = 1 := by decide
    rw [this]; simp

/-- An array of 4096 rows and 64 columns as a table. -/
def entries (X : (⟨2, ![4096, 64]⟩ : Shape).Idx → EReal) : Entries := fun r c => X (ix2 r c)

end Cert.Impute

end
-- ==== Proof.RoundsIdeal.lean ====
/-
  The five rounds read over the extended reals, row by row: each of the kernel's row operations is the operation of
  `Selection` on the row, so column `j` of the accumulator gets `Selection.taken` of the row.
-/
module

public import proofs.«01_k».proof.Proof.Rounds
public import proofs.«01_k».proof.Proof.Words
public import Idealize.ShloMosaic.Lib.Pointwise

@[expose] public section

noncomputable section

namespace Cert.CodedIdeal.RoundsIdeal

open Cert.CodedIdeal Cert.CodedIdeal.Gen Cert.CodedIdeal.Rounds Cert.Impute Idealize.ShloMosaic

/-- A row of a block of distances. -/
def row (D : FVec Ideal S256x4096 .f32) (r : Fin 256) : Fin 4096 → EReal := fun k => D (ix2 r k)

theorem toInt_minsi (x y : BitVec 32) : (IntOp.minsi x y).toInt = min x.toInt y.toInt := by
  simp only [IntOp.minsi, BitVec.slt, decide_eq_true_eq]
  split <;> omega

/-- The least of the marked positions, found by the least of words that are 4096 elsewhere. -/
theorem fold_minsi {P : Fin 4096 → Prop} [DecidablePred P] (m : Fin 4096) (hm : P m) (hmin : ∀ k, k < m → ¬ P k) :
    Finset.fold IntOp.minsi 2147483647#32 (fun x => if P x then BitVec.ofNat 32 x.val else 4096#32) Finset.univ
      = BitVec.ofNat 32 m.val := by
  have key : ∀ c : BitVec 32, c.toInt ≤ (Finset.fold IntOp.minsi 2147483647#32 (fun x : Fin 4096 => if P x then BitVec.ofNat 32 x.val else 4096#32) Finset.univ).toInt
      ↔ c.toInt ≤ (2147483647#32 : BitVec 32).toInt ∧ ∀ x ∈ (Finset.univ : Finset (Fin 4096)), c.toInt ≤ (if P x then BitVec.ofNat 32 x.val else 4096#32).toInt :=
    fun c => Finset.fold_op_rel_iff_and (r := fun a b : BitVec 32 => a.toInt ≤ b.toInt)
      (by intro x y z; rw [toInt_minsi]; exact le_min_iff)
  apply BitVec.eq_of_toInt_eq
  apply le_antisymm
  · have h := ((key _).mp le_rfl).2 m (Finset.mem_univ m)
    rwa [if_pos hm] at h
  · rw [key, toInt_ofNat_small m.isLt.le]
    refine ⟨?_, fun x _ => ?_⟩
    · have := m.isLt
      have e : (2147483647#32 : BitVec 32).toInt = 2147483647 := by decide
      rw [e]; omega
    · split
      · next hx =>
        rw [toInt_ofNat_small x.isLt.le]
        exact_mod_cast not_lt.mp fun hlt => hmin x hlt hx
      · have e : (4096#32 : BitVec 32).toInt = 4096 := by decide
        have := m.isLt
        rw [e]; omega

theorem rowLow_apply (D : FVec Ideal S256x4096 .f32) (r : Fin 256) (z : Fin 1) :
    rowLow D (ix2 r z) = Selection.low (row D r) := by
  pointwise [rowLow]
  rw [ofBits_inf]
  rfl

/-- A row of 4096 distances holds its least one, and holds it first somewhere. -/
theorem exists_first (d : Fin 4096 → EReal) : ∃ m, Selection.first d m := by
  classical
  have h : ∃ k, d k = Selection.low d := by
    obtain ⟨k, -, hk⟩ := Finset.exists_mem_eq_inf Finset.univ Finset.univ_nonempty d
    exact ⟨k, hk.symm⟩
  obtain ⟨m, hm⟩ := WellFounded.has_min (wellFounded_lt (α := Fin 4096)) {k | d k = Selection.low d} h
  exact ⟨m, hm.1, fun k' hk' e => hm.2 k' e hk'⟩

theorem first_unique {d : Fin 4096 → EReal} {a b : Fin 4096} (ha : Selection.first d a) (hb : Selection.first d b) : a = b := by
  rcases lt_trichotomy a b with h | h | h
  · exact absurd ha.1 (hb.2 a h)
  · exact h
  · exact absurd hb.1 (ha.2 b h)

theorem rowFirst_apply (D : FVec Ideal S256x4096 .f32) (r : Fin 256) (k : Fin 4096) :
    rowFirst D (ix2 r k) = 1#1 ↔ Selection.first (row D r) k := by
  classical
  pointwise [rowFirst, places, lane]
  obtain ⟨m, hm⟩ := exists_first (row D r)
  have e : Finset.fold IntOp.minsi 2147483647#32
      (fun x : Fin 4096 => if D (ix2 r x) = rowLow D (ix2 r 0) then BitVec.ofNat 32 x.val else 4096#32) Finset.univ = BitVec.ofNat 32 m.val := by
    simp only [rowLow_apply]
    exact fold_minsi m hm.1 fun k hk => hm.2 k hk
  rw [e]
  have h1 : IntOp.cmpi .eq (BitVec.ofNat 32 k.val) (BitVec.ofNat 32 m.val) = 1#1 ↔ k = m := by
    unfold IntOp.cmpi
    simp only [beq_iff_eq]
    constructor
    · intro h
      have h2 : BitVec.ofNat 32 k.val = BitVec.ofNat 32 m.val := by
        by_contra hne
        rw [beq_eq_false_iff_ne.mpr hne] at h
        exact absurd h (by decide)
      have h3 := congrArg BitVec.toInt h2
      rw [toInt_ofNat_small k.isLt.le, toInt_ofNat_small m.isLt.le] at h3
      exact Fin.ext (by exact_mod_cast h3)
    · rintro rfl; rw [beq_self_eq_true]; rfl
  rw [h1]
  exact ⟨fun h => h ▸ hm, fun h => first_unique h hm⟩

theorem rowWeight_apply (x : FVec Ideal S256x1 .f32) (r : Fin 256) (z : Fin 1) (h : x (ix2 r z) ≠ ⊥) :
    rowWeight x (ix2 r z) = Selection.weight (x (ix2 r z)) := by
  pointwise [rowWeight]
  unfold Selection.weight
  generalize x (ix2 r z) = a at h ⊢
  have e : FloatOps.weird (F := Ideal) a = BitVec.ofBool (decide (a = ⊤ ∨ a = ⊥)) := rfl
  rw [e]
  by_cases ht : a = ⊤
  · rw [if_pos ht, decide_eq_true (Or.inl ht)]
    show (((BitVec.setWidth 32 (IntOp.xori (BitVec.ofBool true) 1#1)).toInt : ℝ) : EReal) = 0
    have : (BitVec.setWidth 32 (IntOp.xori (BitVec.ofBool true) 1#1)).toInt = 0 := by decide
    rw [this]; simp
  · rw [if_neg ht, decide_eq_false (by tauto)]
    show (((BitVec.setWidth 32 (IntOp.xori (BitVec.ofBool false) 1#1)).toInt : ℝ) : EReal) = 1
    have : (BitVec.setWidth 32 (IntOp.xori (BitVec.ofBool false) 1#1)).toInt = 1 := by decide
    rw [this]; simp

theorem rowPick_apply (D : FVec Ideal S256x4096 .f32) (v : FVec Ideal S1x4096 .f32) (r : Fin 256) (z : Fin 1) :
    rowPick (rowFirst D) v (ix2 r z) = Selection.pick (row D r) fun k => v (ix2 0 k) := by
  classical
  pointwise [rowPick]
  unfold Selection.pick
  refine Finset.sum_congr rfl fun k _ => ?_
  rw [select_iff (rowFirst_apply D r k)]

theorem rowRound_row (D : FVec Ideal S256x4096 .f32) (r : Fin 256) : row (rowRound D) r = Selection.round (row D r) := by
  classical
  funext k
  unfold row
  pointwise [rowRound]
  rw [select_iff (rowFirst_apply D r k), ofBits_inf]
  rfl

/-- A least distance is not `⊥` where no distance is, and rounds keep it so. -/
theorem low_ne_bot {d : Fin 4096 → EReal} (h : ∀ k, d k ≠ ⊥) : Selection.low d ≠ ⊥ := by
  obtain ⟨m, hm⟩ := exists_first d
  rw [← hm.1]; exact h m

theorem round_ne_bot {d : Fin 4096 → EReal} (h : ∀ k, d k ≠ ⊥) (k : Fin 4096) : Selection.round d k ≠ ⊥ := by
  unfold Selection.round
  split
  · exact top_ne_bot
  · exact h k

theorem weight_apply (D : FVec Ideal S256x4096 .f32) (r : Fin 256) (z : Fin 1) (h : ∀ k, row D r k ≠ ⊥) :
    rowWeight (rowLow D) (ix2 r z) = Selection.weight (Selection.low (row D r)) := by
  rw [rowWeight_apply _ _ _ (by rw [rowLow_apply]; exact low_ne_bot h), rowLow_apply]

theorem gain_apply (D : FVec Ideal S256x4096 .f32) (v : FVec Ideal S1x4096 .f32) (r : Fin 256) (z : Fin 1) (h : ∀ k, row D r k ≠ ⊥) :
    gain D v (ix2 r z) = Selection.pick (row D r) (fun k => v (ix2 0 k)) * Selection.weight (Selection.low (row D r)) := by
  pointwise [gain]
  rw [rowPick_apply, weight_apply D r z h]

theorem rows_ne_bot (D : FVec Ideal S256x4096 .f32) (r : Fin 256) (h : ∀ k, row D r k ≠ ⊥) (k : Fin 4096) : row (rowRound D) r k ≠ ⊥ := by
  rw [rowRound_row]; exact round_ne_bot h k

theorem admitted_row (D : FVec Ideal S256x4096 .f32) (o : Vec Ideal S1x4096 .f32) (r : Fin 256) :
    row (k0_pay7 D (Scalar.ofBits .f32 0x7F800000#32) o) r = admitted (row D r) fun k => o (ix2 0 k) := by
  funext k
  unfold row admitted
  pointwise [k0_pay7]
  rw [ofBits_inf]

/-- One trip adds, in column `j`, what five rounds take on the row. -/
theorem trip_apply (j : BitVec 32) (D : FVec Ideal S256x4096 .f32) (o v : Vec Ideal S1x4096 .f32) (μ : Vec Ideal S1x1 .f32)
    (acc : Vec Ideal S256x64 .f32) (r : Fin 256) (l : Fin 64) (h : ∀ k, row D r k ≠ ⊥) :
    trip j D o v μ acc (ix2 r l) = acc (ix2 r l) + (if BitVec.ofNat 32 l.val = j then
      Selection.taken (admitted (row D r) fun k => o (ix2 0 k)) (fun k => v (ix2 0 k)) (μ (ix2 0 0)) else 0) := by
  have h0 : ∀ k, row (k0_pay7 D (Scalar.ofBits .f32 0x7F800000#32) o) r k ≠ ⊥ := by
    intro k; rw [admitted_row]; unfold admitted; split
    · exact h k
    · exact top_ne_bot
  have e := admitted_row D o r
  pointwise [trip, k0_pay4]
  rw [select_iff (cmpi_eq_iff _ j)]
  congr 1
  split
  swap
  · rfl
  generalize hE : (k0_pay7 D (Ideal.ofBits .f32 0x7F800000#32) o : FVec Ideal S256x4096 .f32) = E
  have hE' : k0_pay7 D (Scalar.ofBits .f32 0x7F800000#32) o = E := hE
  rw [hE'] at e h0
  have h1 := rows_ne_bot E r h0
  have h2 := rows_ne_bot _ r h1
  have h3 := rows_ne_bot _ r h2
  have h4 := rows_ne_bot _ r h3
  unfold Selection.taken
  pointwise [rowSum, rowCount]
  rw [gain_apply _ _ _ _ h0, gain_apply _ _ _ _ h1, gain_apply _ _ _ _ h2, gain_apply _ _ _ _ h3, gain_apply _ _ _ _ h4,
    weight_apply _ _ _ h0, weight_apply _ _ _ h1, weight_apply _ _ _ h2, weight_apply _ _ _ h3, weight_apply _ _ _ h4]
  simp only [rowRound_row, e, zero_add]

end Cert.CodedIdeal.RoundsIdeal

end
-- ==== Proof.BlockIdeal.lean ====
/-
  One block of the kernel's result over the extended reals: 256 rows of the imputed table.
-/
module

public import proofs.«01_k».proof.Proof.Body
public import proofs.«01_k».proof.Proof.RoundsIdeal
public import Idealize.ShloMosaic.Lib.Pipeline.ValueKit.Tiles

@[expose] public section

noncomputable section

namespace Cert.CodedIdeal.BlockIdeal

open Cert.CodedIdeal Cert.CodedIdeal.Gen Cert.CodedIdeal.Rounds Cert.CodedIdeal.RoundsIdeal Cert.CodedIdeal.Body Cert.Impute Idealize.ShloMosaic

/-- The row of the table that row `r` of block `b` is. -/
def rowOf (b : Fin 16) (r : Fin 256) : Fin 4096 := ⟨256 * b.val + r.val, by omega⟩

/-- A flag of "not equal to minus infinity", widened and read as a number. -/
theorem flag_eq (a : EReal) :
    FloatOps.sitofp (F := Ideal) .f32 (BitVec.setWidth 32 (IntOp.xori (BitVec.ofBool (decide (a = (⊥ : EReal)))) 1#1)) = (if a = ⊥ then (0 : EReal) else 1) := by
  by_cases h : a = ⊥
  · rw [if_pos h, decide_eq_true h]
    show (((BitVec.setWidth 32 (IntOp.xori (BitVec.ofBool true) 1#1)).toInt : ℝ) : EReal) = 0
    have : (BitVec.setWidth 32 (IntOp.xori (BitVec.ofBool true) 1#1)).toInt = 0 := by decide
    rw [this]; simp
  · rw [if_neg h, decide_eq_false h]
    show (((BitVec.setWidth 32 (IntOp.xori (BitVec.ofBool false) 1#1)).toInt : ℝ) : EReal) = 1
    have : (BitVec.setWidth 32 (IntOp.xori (BitVec.ofBool false) 1#1)).toInt = 1 := by decide
    rw [this]; simp

theorem rowAt_apply (k : Fin k0_t1_loop.trips) (hk : k.val < 64) (X : Vec Ideal S64x4096 .f32) (z : Fin 1) (s : Fin 4096) :
    rowAt k X (ix2 z s) = X (ix2 ⟨k.val, hk⟩ s) := by
  unfold rowAt
  refine View.ld_unit_apply_of X _ _ _ _ _ fun a => ?_
  have e := congrFun (k0_off1_eq k) a
  rw [e]
  fin_cases a
  · have hz : z.val = 0 := by omega
    show k.val = k.val + z.val
    omega
  · show s.val = 0 + s.val
    omega

theorem meanAt_apply (k : Fin k0_t1_loop.trips) (hk : k.val < 64) (X : Vec Ideal S64x1 .f32) (z z' : Fin 1) :
    meanAt k X (ix2 z z') = X (ix2 ⟨k.val, hk⟩ 0) := by
  unfold meanAt
  refine View.ld_unit_apply_of X _ _ _ _ _ fun a => ?_
  have e := congrFun (k0_off2_eq k) a
  rw [e]
  fin_cases a
  · have hz : z.val = 0 := by omega
    show k.val = k.val + z.val
    omega
  · have hz : z'.val = 0 := by omega
    show 0 = 0 + z'.val
    omega

theorem trips_eq : k0_t1_loop.trips = 64 := by decide +kernel

/-- After `k` trips the accumulator holds the first `k` columns' means of the five nearest rows, and zero elsewhere. -/
theorem accAfter_apply (D : FVec Ideal S256x4096 .f32) (x1 x3 : Vec Ideal S64x4096 .f32) (μ : Vec Ideal S64x1 .f32) (r : Fin 256) (l : Fin 64)
    (h : ∀ k, row D r k ≠ ⊥) (k : ℕ) (hk : k ≤ 64) :
    accAfter D x1 x3 μ k (ix2 r l) = if l.val < k then
      Selection.taken (admitted (row D r) fun s => x1 (ix2 l s)) (fun s => x3 (ix2 l s)) (μ (ix2 l 0)) else 0 := by
  induction k with
  | zero =>
    rw [if_neg (Nat.not_lt_zero _)]
    unfold accAfter
    pointwise [k0_pay3]
  | succ k ih =>
    have hlt : k < k0_t1_loop.trips := by rw [trips_eq]; omega
    rw [accAfter, dif_pos hlt, trip_apply _ _ _ _ _ _ _ _ h, ih (by omega)]
    have hk64 : k < 64 := by omega
    simp only [rowAt_apply ⟨k, hlt⟩ hk64, meanAt_apply ⟨k, hlt⟩ hk64]
    have hiv : Scf.iv 0#32 1#32 k = BitVec.ofNat 32 k := by
      simp [Scf.iv]
    rw [hiv]
    by_cases hl : l.val = k
    · rw [if_neg (c := l.val < k) (by omega), if_pos (c := l.val < k + 1) (by omega),
        if_pos (c := BitVec.ofNat 32 l.val = BitVec.ofNat 32 k) (by rw [hl]), zero_add]
      have : (⟨k, hk64⟩ : Fin 64) = l := Fin.ext hl.symm
      rw [this]
    · rw [if_neg (c := BitVec.ofNat 32 l.val = BitVec.ofNat 32 k), add_zero]
      · by_cases h2 : l.val < k
        · rw [if_pos h2, if_pos (by omega)]
        · rw [if_neg h2, if_neg (by omega)]
      · intro e
        have := congrArg BitVec.toInt e
        rw [toInt_ofNat_small (by omega), toInt_ofNat_small (by omega)] at this
        omega

variable (x : Entries) (i : grid0.Coords) (b : Fin 16) (x0 : Vec Ideal S256x64 .f32) (x1 x2 x3 : Vec Ideal S64x4096 .f32)

/-- What the kernel's four inputs hold at block `b` of a table. -/
structure Holds : Prop where
  point : (i 0).val = b.val
  rows : ∀ r c, x0 (ix2 r c) = x (rowOf b r) c
  flags : ∀ c s, x1 (ix2 c s) = known x s c
  squares : ∀ c s, x2 (ix2 c s) = value x s c * value x s c
  values : ∀ c s, x3 (ix2 c s) = value x s c

variable {x i b x0 x1 x2 x3} (H : Holds x i b x0 x1 x2 x3)
include H

theorem near_apply (r : Fin 256) (k : Fin 4096) : k0_pay40 x0 x1 x2 x3 (ix2 r k) = near x (rowOf b r) k := by
  pointwise [k0_pay40, k0_pay36, k0_pay37, k0_pay38, k0_pay39]
  simp only [ofBits_inf, ofBits_neg_inf, ofBits_two, ofBits_64, flag_eq, H.rows, H.flags, H.squares, H.values]
  rfl

theorem blockDist_row (r : Fin 256) : row (blockDist i x0 x1 x2 x3) r = dist x (rowOf b r) := by
  funext k
  have e := near_apply H r k
  unfold row blockDist
  generalize k0_pay40 x0 x1 x2 x3 = D at e
  pointwise [k0_pay1, k0_pay41]
  rw [select_iff (cmpi_eq_iff _ _), ofBits_inf, e]
  unfold Impute.dist
  congr 1
  rw [H.point, eq_iff_iff]
  have hb := b.isLt
  have hr := r.isLt
  have e1 : IntOp.addi (BitVec.ofNat 32 r.val) (Scalar.muli (BitVec.ofNat 32 b.val) 256#32) = BitVec.ofNat 32 (256 * b.val + r.val) := by
    apply BitVec.eq_of_toNat_eq
    simp [IntOp.addi, Scalar.muli, IntOp.muli, BitVec.toNat_add, BitVec.toNat_mul]
    omega
  rw [e1]
  constructor
  · intro h
    have := congrArg BitVec.toInt h
    rw [toInt_ofNat_small (by omega), toInt_ofNat_small (by omega)] at this
    exact Fin.ext (by show 256 * b.val + r.val = k.val; omega)
  · intro h; rw [← h]; rfl

theorem means_apply (l : Fin 64) : k0_pay2 (k0_pay38 x1) (k0_pay39 x3) (ix2 l (0 : Fin 1)) = mean x l := by
  pointwise [k0_pay2, k0_pay38, k0_pay39]
  simp only [H.flags, H.values]
  rfl

/-- The block that one grid point writes holds its 256 rows of the imputed table. -/
theorem block_apply (r : Fin 256) (l : Fin 64) :
    k0_pay5 (k0_pay36 x0) (k0_pay37 x0)
      (accAfter (blockDist i x0 x1 x2 x3) x1 x3 (k0_pay2 (k0_pay38 x1) (k0_pay39 x3)) k0_t1_loop.trips) (ix2 r l)
      = byRounds x (rowOf b r) l := by
  have hD := blockDist_row H r
  have ha := accAfter_apply (blockDist i x0 x1 x2 x3) x1 x3 (k0_pay2 (k0_pay38 x1) (k0_pay39 x3)) r l
    (by rw [hD]; exact dist_ne_bot x _) 64 le_rfl
  rw [if_pos l.isLt, hD, means_apply H] at ha
  simp only [H.flags, H.values] at ha
  rw [trips_eq]
  generalize accAfter (blockDist i x0 x1 x2 x3) x1 x3 (k0_pay2 (k0_pay38 x1) (k0_pay39 x3)) 64 = A at ha
  pointwise [k0_pay5, k0_pay36, k0_pay37]
  rw [ofBits_neg_inf, ha, H.rows]
  rfl

end Cert.CodedIdeal.BlockIdeal

end
-- ==== Proof.ArrayIdeal.lean ====
/-
  The kernel's result array over the extended reals: sixteen blocks of 256 rows, together the imputed table.
-/
module

public import proofs.«01_k».proof.Proof.BlockIdeal
public import Idealize.ShloMosaic.Lib.Pipeline.ValueKit.Point
public import Idealize.ShloMosaic.Lib.Claim

@[expose] public section

noncomputable section

namespace Cert.CodedIdeal.ArrayIdeal

open Cert.CodedIdeal Cert.CodedIdeal.Gen Cert.CodedIdeal.Body Cert.CodedIdeal.BlockIdeal Cert.CodedIdeal.RoundsIdeal Cert.Impute
open Idealize.ShloMosaic Idealize.ShloMosaic.TcCoe Idealize.SL.Sem

/-- The imputed table as an array. -/
def imputed (X : S4096x64.Idx → EReal) : S4096x64.Idx → EReal := fun i => byRounds (entries X) (i 0) (i 1)

variable (m : (ℓ : Loc nD τ sig) → Buf (Elt Ideal) ℓ) (ρ : Dev nD → PrngReg)

/-- The argument array. -/
abbrev arg (c : Dev nD) : S4096x64.Idx → EReal := m ((c : Thread nD τ).loc main_arg0)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem coord : ∀ t : Fin cfg0.N, (grid0.coords t 0).val = t.val :=
  (by decide +kernel : ∀ t : Fin grid0.N, _)

/-- The grid point as a number below 16. -/
def block (t : Fin cfg0.N) : Fin 16 := ⟨t.val, t.isLt.trans_eq N_0⟩

theorem emb0 (t : Fin cfg0.N) (r : Fin 256) (k : Fin 64) : ((cfg0.win 0).blk t).view.emb (ix2 r k) = (ix2 (rowOf (block t) r) k : S4096x64.Idx) := by
  obtain ⟨e0, e1⟩ := index0 t
  funext a; apply Fin.ext
  match a with
  | ⟨0, _⟩ => show win0_0.index t (0 : Fin 2) * 256 + 1 * r.val = 256 * t.val + r.val; omega
  | ⟨1, _⟩ => show win0_0.index t (1 : Fin 2) * 64 + 1 * k.val = k.val; omega

theorem emb4 (t : Fin cfg0.N) (r : Fin 256) (k : Fin 64) : ((cfg0.win 4).blk t).view.emb (ix2 r k) = (ix2 (rowOf (block t) r) k : S4096x64.Idx) := by
  obtain ⟨e0, e1⟩ := index4 t
  funext a; apply Fin.ext
  match a with
  | ⟨0, _⟩ => show win0_4.index t (0 : Fin 2) * 256 + 1 * r.val = 256 * t.val + r.val; omega
  | ⟨1, _⟩ => show win0_4.index t (1 : Fin 2) * 64 + 1 * k.val = k.val; omega

theorem emb1 (t : Fin cfg0.N) (j : S64x4096.Idx) : ((cfg0.win 1).blk t).view.emb j = j := by
  obtain ⟨e0, e1⟩ := index1 t
  funext a; apply Fin.ext
  match a with
  | ⟨0, _⟩ => show win0_1.index t (0 : Fin 2) * 64 + 1 * (j 0).val = (j 0).val; omega
  | ⟨1, _⟩ => show win0_1.index t (1 : Fin 2) * 4096 + 1 * (j 1).val = (j 1).val; omega

theorem emb2 (t : Fin cfg0.N) (j : S64x4096.Idx) : ((cfg0.win 2).blk t).view.emb j = j := by
  obtain ⟨e0, e1⟩ := index2 t
  funext a; apply Fin.ext
  match a with
  | ⟨0, _⟩ => show win0_2.index t (0 : Fin 2) * 64 + 1 * (j 0).val = (j 0).val; omega
  | ⟨1, _⟩ => show win0_2.index t (1 : Fin 2) * 4096 + 1 * (j 1).val = (j 1).val; omega

theorem emb3 (t : Fin cfg0.N) (j : S64x4096.Idx) : ((cfg0.win 3).blk t).view.emb j = j := by
  obtain ⟨e0, e1⟩ := index3 t
  funext a; apply Fin.ext
  match a with
  | ⟨0, _⟩ => show win0_3.index t (0 : Fin 2) * 64 + 1 * (j 0).val = (j 0).val; omega
  | ⟨1, _⟩ => show win0_3.index t (1 : Fin 2) * 4096 + 1 * (j 1).val = (j 1).val; omega

/-- The contents when the kernel starts: the launch contents after the host's operations, one list. -/
theorem V_eq (c : Dev nD) (b : Ref sig .tc) :
    V m c b = StableHlo.after (hostOps0 ++ (hostOps0_1 ++ hostOps0_2)) (fun b => m (c, b)) (Proc.tc.devRef b) := by
  unfold V
  simp only [List.flatten_cons, List.flatten_nil, List.append_nil]

/-- The host's `where(x == -inf, 0, x)`. -/
def hostValues (X : FVec Ideal S4096x64 .f32) : FVec Ideal S4096x64 .f32 :=
  select (cmpf .oeq X (broadcastInDim S4096x64 ![] bcast_S_S4096x64 (constant S_ .f32 0xFF800000#32)))
    (broadcastInDim S4096x64 ![] bcast_S_S4096x64 (constant S_ .f32 0x00000000#32)) X

theorem hostValues_apply (X : FVec Ideal S4096x64 .f32) (s : Fin 4096) (k : Fin 64) : hostValues X (ix2 s k) = value (entries X) s k := by
  pointwise [hostValues]
  rw [ofBits_neg_inf]
  rfl

/-- The flags that the host passes: 1 where the entry is known, turned to columns by rows. -/
theorem host_flags (c : Dev nD) (k : Fin 64) (s : Fin 4096) :
    (V m c main_v5 : S64x4096.Idx → EReal) (ix2 k s) = known (entries (arg m c)) s k := by
  rw [V_eq]
  simp only [hostOps0, hostOps0_1, hostOps0_2, List.cons_append, List.nil_append]
  entry_read
  pointwise
  rw [ofBits_neg_inf, uflag_eq]
  rfl

theorem host_squares (c : Dev nD) (k : Fin 64) (s : Fin 4096) :
    (V m c main_v8 : S64x4096.Idx → EReal) (ix2 k s) = value (entries (arg m c)) s k * value (entries (arg m c)) s k := by
  rw [V_eq]
  simp only [hostOps0, hostOps0_1, hostOps0_2, List.cons_append, List.nil_append]
  entry_read
  pointwise
  show hostValues (arg m c) (ix2 s k) * hostValues (arg m c) (ix2 s k) = _
  rw [hostValues_apply]

theorem host_values (c : Dev nD) (k : Fin 64) (s : Fin 4096) :
    (V m c main_v6 : S64x4096.Idx → EReal) (ix2 k s) = value (entries (arg m c)) s k := by
  rw [V_eq]
  simp only [hostOps0, hostOps0_1, hostOps0_2, List.cons_append, List.nil_append]
  entry_read
  pointwise
  show hostValues (arg m c) (ix2 s k) = _
  rw [hostValues_apply]

/-- What the four inputs hold at point `t`. -/
theorem holds (c : Dev nD) (t : Fin cfg0.N) :
    Holds (entries (arg m c)) (grid0.coords t) (block t) (iblk m c 0 t) (iblk m c 1 t) (iblk m c 2 t) (iblk m c 3 t) where
  point := coord t
  rows r k := by
    show V m c main_arg0 (((cfg0.win 0).blk t).view.emb (ix2 r k)) = _
    rw [emb0, V_main_arg0]; rfl
  flags k s := by
    show V m c main_v5 (((cfg0.win 1).blk t).view.emb (ix2 k s)) = _
    rw [emb1]; exact host_flags m c k s
  squares k s := by
    show V m c main_v8 (((cfg0.win 2).blk t).view.emb (ix2 k s)) = _
    rw [emb2]; exact host_squares m c k s
  values k s := by
    show V m c main_v6 (((cfg0.win 3).blk t).view.emb (ix2 k s)) = _
    rw [emb3]; exact host_values m c k s

/-- What point `t` writes back is its block of the imputed table. -/
theorem flushed_eq (c : Dev nD) (t : Fin cfg0.N) :
    (dats m 0 c).flushed 4 t = ((cfg0.win 4).blk t).view.read (Elt Ideal) (imputed (arg m c)) := by
  rw [Value.flushed4_A, block_eq]
  funext j
  obtain ⟨r, k, rfl⟩ : ∃ (r : Fin 256) (k : Fin 64), j = ix2 r k := ⟨j 0, j 1, eq_ix2 j⟩
  show _ = imputed (arg m c) (((cfg0.win 4).blk t).view.emb (ix2 r k))
  rw [emb4]
  exact block_apply (holds m c t) r k

/-- Every index of the result array is in the block of its row. -/
theorem cover (i : S4096x64.Idx) : ∃ t : Fin cfg0.N, (cfg0.win 4).flush t = true ∧ i ∈ ((cfg0.win 4).blk t).view.set := by
  obtain ⟨r, k, rfl⟩ : ∃ (r : Fin 4096) (k : Fin 64), i = ix2 r k := ⟨i 0, i 1, eq_ix2 i⟩
  have hN : cfg0.N = 16 := N_0
  refine ⟨(⟨r.val / 256, by rw [hN]; have := r.isLt; omega⟩ : Fin cfg0.N), flush0_4 _, ?_⟩
  have h := ((cfg0.win 4).blk (⟨r.val / 256, by rw [hN]; have := r.isLt; omega⟩ : Fin cfg0.N)).view.emb_mem_set (ix2 (⟨r.val % 256, Nat.mod_lt _ (by omega)⟩ : Fin 256) k)
  rw [emb4] at h
  have e : rowOf (block (⟨r.val / 256, by rw [hN]; have := r.isLt; omega⟩ : Fin cfg0.N)) ⟨r.val % 256, Nat.mod_lt _ (by omega)⟩ = r := Fin.ext (Nat.div_add_mod r.val 256)
  rwa [e] at h

/-- The result array after the run is the imputed table. -/
theorem final (c : Dev nD) : (dats m 0 c).arrAt 4 cfg0.N = imputed (arg m c) :=
  (dats m 0 c).arrAt_eq_of_cover 4 (imputed (arg m c)) (fun t _ => flushed_eq m c t) cover

/-- The kernel's run: the result array ends as the imputed table, the argument unchanged. -/
theorem run : θ_run defs (onTc (τ := τ) (main (F := Ideal))) ⟨m, fun _ => 0, ρ⟩ fun r => ∀ c : Dev nD,
      r.2.mem ((c : Thread nD τ).loc main_v9) = imputed (arg m c)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.CodedIdeal.ArrayIdeal

end
-- ==== Proof.Nearest.lean ====
/-
  The reference's two indexed operations, read at an index: the five largest of a row (with their positions), and the take
  of entries at given positions.
-/
module

public import proofs.«01_k».proof.Proof.Words
public import Idealize.ShloMosaic.Lib.ValueIdx

@[expose] public section

noncomputable section

namespace Cert.Nearest

open Cert.Impute Idealize.ShloMosaic

/-- Largest first on negated distances is least first on the distances. -/
theorem gt_neg (a b : EReal) : (FloatOps.cmpfTotal (F := Ideal) (φ := .f32) .gt (-a) (-b) == 1#1) = decide (a < b) := by
  have h : FloatOps.cmpfTotal (F := Ideal) (φ := .f32) .gt (-a) (-b) = BitVec.ofBool (decide (-b < -a)) := rfl
  rw [h]
  have e : (-b < -a) ↔ a < b := EReal.neg_lt_neg_iff
  by_cases hab : a < b
  · rw [decide_eq_true (e.mpr hab), decide_eq_true hab]; decide
  · rw [decide_eq_false (fun hh => hab (e.mp hh)), decide_eq_false hab]; decide

section TopK
variable {A B N K : Nat} (hK : K ≤ N) (x : (⟨3, ![A, B, N]⟩ : Shape).Idx → EReal) (d : Fin N → EReal) (a : Fin A) (b : Fin B)

theorem along_ix3 (k k' : Fin N) : (ix3 a b k : (⟨3, ![A, B, N]⟩ : Shape).Idx).along (2 : Fin 3) k' = ix3 a b k' := by
  funext i
  match i with
  | ⟨0, _⟩ => rfl
  | ⟨1, _⟩ => rfl
  | ⟨2, _⟩ => rfl

/-- The `q`-th largest of a row of negated distances, and where it is: the `q`-th place of the stable sort. -/
theorem topK_apply (hx : ∀ k, x (ix3 a b k) = -d k)
    (h : (⟨3, ![A, B, N]⟩ : Shape).Slices (fun _ => 0) ⟨3, ![A, B, K]⟩) (q : Fin K) :
    (Host.topK ⟨3, ![A, B, K]⟩ 2 (FloatOps.cmpfTotal (F := Ideal) (φ := .f32) .gt) x h).1 (ix3 a b q) = -d (Selection.sorted d (q.castLE hK))
    ∧ (Host.topK ⟨3, ![A, B, K]⟩ 2 (FloatOps.cmpfTotal (F := Ideal) (φ := .f32) .gt) x h).2 (ix3 a b q)
      = BitVec.ofNat 32 (Selection.sorted d (q.castLE hK)).val := by
  have hpos : (fun i : Fin 3 => (⟨(fun _ => 0 : Fin 3 → Nat) i + ((ix3 a b q : (⟨3, ![A, B, K]⟩ : Shape).Idx) (i.cast h.1.symm)).val,
      Nat.lt_of_lt_of_le (Nat.add_lt_add_left ((ix3 a b q : (⟨3, ![A, B, K]⟩ : Shape).Idx) _).isLt _) (h.2 i)⟩ :
        Fin ((⟨3, ![A, B, N]⟩ : Shape).size i))) = ix3 a b (q.castLE hK) := by
    funext i; apply Fin.ext
    match i with
    | ⟨0, _⟩ => exact Nat.zero_add _
    | ⟨1, _⟩ => exact Nat.zero_add _
    | ⟨2, _⟩ => exact Nat.zero_add _
  have hs : (fun k k' : Fin N => FloatOps.cmpfTotal (F := Ideal) (φ := .f32) .gt
      (x ((ix3 a b (q.castLE hK) : (⟨3, ![A, B, N]⟩ : Shape).Idx).along (2 : Fin 3) k))
      (x ((ix3 a b (q.castLE hK) : (⟨3, ![A, B, N]⟩ : Shape).Idx).along (2 : Fin 3) k')) == 1#1) = fun k k' => decide (d k < d k') := by
    funext k k'
    rw [along_ix3, along_ix3, hx, hx, gt_neg]
  have hp : sortedFrom (fun k k' : Fin N => FloatOps.cmpfTotal (F := Ideal) (φ := .f32) .gt
      (x ((ix3 a b (q.castLE hK) : (⟨3, ![A, B, N]⟩ : Shape).Idx).along (2 : Fin 3) k))
      (x ((ix3 a b (q.castLE hK) : (⟨3, ![A, B, N]⟩ : Shape).Idx).along (2 : Fin 3) k')) == 1#1) (q.castLE hK)
      = Selection.sorted d (q.castLE hK) := by
    unfold Selection.sorted; rw [hs]
  unfold Host.topK Host.sort2
  dsimp only
  rw [dif_pos (by decide)]
  unfold extractStridedSlice
  dsimp only
  constructor
  · refine (congrArg (fun j : (⟨3, ![A, B, N]⟩ : Shape).Idx => x (j.along (2 : Fin 3) (sortedFrom (fun k k' : Fin N =>
      FloatOps.cmpfTotal (F := Ideal) (φ := .f32) .gt (x (j.along (2 : Fin 3) k)) (x (j.along (2 : Fin 3) k')) == 1#1) (j 2)))) hpos).trans ?_
    exact (congrArg (fun k : Fin N => x ((ix3 a b (q.castLE hK) : (⟨3, ![A, B, N]⟩ : Shape).Idx).along (2 : Fin 3) k)) hp).trans
      ((congrArg x (along_ix3 a b _ _)).trans (hx _))
  · refine (congrArg (fun j : (⟨3, ![A, B, N]⟩ : Shape).Idx => BitVec.ofNat 32 ((j.along (2 : Fin 3) (sortedFrom (fun k k' : Fin N =>
      FloatOps.cmpfTotal (F := Ideal) (φ := .f32) .gt (x (j.along (2 : Fin 3) k)) (x (j.along (2 : Fin 3) k')) == 1#1) (j 2))) 2).val) hpos).trans ?_
    exact (congrArg (fun k : Fin N => BitVec.ofNat 32
        (((ix3 a b (q.castLE hK) : (⟨3, ![A, B, N]⟩ : Shape).Idx).along (2 : Fin 3) k) 2).val) hp).trans
      (congrArg (fun j : (⟨3, ![A, B, N]⟩ : Shape).Idx => BitVec.ofNat 32 (j 2).val) (along_ix3 a b _ _))

end TopK

section Take
variable {A B N K : Nat}

/-- The dimension numbers of a take along the rows' axis: row `b` of the result's row `a` reads row `a` of the operand at
    its own positions. -/
abbrev takeDims (wf : GatherDims.WF ⟨2, ![A, N]⟩ ⟨4, ![A, B, K, 1]⟩ ⟨3, ![A, B, K]⟩ [] [1] [0] [1] [0] 3 ![1, 1]) :
    GatherDims ⟨2, ![A, N]⟩ ⟨4, ![A, B, K, 1]⟩ ⟨3, ![A, B, K]⟩ where
  offsetDims := []
  collapsedSliceDims := [1]
  operandBatchingDims := [0]
  startIndicesBatchingDims := [0]
  startIndexMap := [1]
  indexVectorDim := 3
  sliceSizes := ![1, 1]
  wf := wf

/-- The place of the position that result entry `(a, b, q)` reads. -/
abbrev place (a : Fin A) (b : Fin B) (q : Fin K) : (⟨4, ![A, B, K, 1]⟩ : Shape).Idx := fun i => match i with
  | ⟨0, _⟩ => a
  | ⟨1, _⟩ => b
  | ⟨2, _⟩ => q
  | ⟨3, _⟩ => (0 : Fin 1)

/-- A take at a position that is in range reads the operand there. -/
theorem take_apply (wf : GatherDims.WF ⟨2, ![A, N]⟩ ⟨4, ![A, B, K, 1]⟩ ⟨3, ![A, B, K]⟩ [] [1] [0] [1] [0] 3 ![1, 1])
    {α : Type} (x : (⟨2, ![A, N]⟩ : Shape).Idx → α) (idx : IVec ⟨4, ![A, B, K, 1]⟩ 32) (a : Fin A) (b : Fin B) (q : Fin K) (k : Fin N)
    (hk : (idx (place a b q)).toInt = k.val) :
    Host.gather (takeDims wf) x idx (ix3 a b q) = x (ix2 a k) := by
  have hs : ∀ h, (takeDims wf).siIdx (ix3 a b q) ⟨List.idxOf (1 : Fin 2) (takeDims wf).startIndexMap, h⟩ = place a b q := by
    intro h
    funext i; apply Fin.ext
    match i with
    | ⟨0, _⟩ => rfl
    | ⟨1, _⟩ => rfl
    | ⟨2, _⟩ => rfl
    | ⟨3, _⟩ => rfl
  have h0 : (takeDims wf).start (ix3 a b q) idx (0 : Fin 2) + (takeDims wf).batchCoord (ix3 a b q) (0 : Fin 2)
      + (takeDims wf).offCoord (ix3 a b q) (0 : Fin 2) = a.val := by
    rw [GatherDims.start_batching _ _ _ _ (List.mem_singleton.mpr rfl),
      GatherDims.offCoord_eq_zero _ _ _ fun h => ((GatherDims.mem_sKept _ _).mp h).2 (List.mem_singleton.mpr rfl), Nat.zero_add, Nat.add_zero]
    unfold GatherDims.batchCoord
    rw [dif_pos (List.mem_singleton.mpr rfl)]
    rfl
  have h1 : (takeDims wf).start (ix3 a b q) idx (1 : Fin 2) + (takeDims wf).batchCoord (ix3 a b q) (1 : Fin 2)
      + (takeDims wf).offCoord (ix3 a b q) (1 : Fin 2) = k.val := by
    rw [GatherDims.batchCoord_eq_zero _ _ _ fun h => by simp at h,
      GatherDims.offCoord_eq_zero _ _ _ fun h => ((GatherDims.mem_sKept _ _).mp h).1 (List.mem_singleton.mpr rfl), Nat.add_zero]
    unfold GatherDims.start
    rw [dif_pos (show (1 : Fin 2) ∈ (takeDims wf).startIndexMap from List.mem_singleton.mpr rfl), hs]
    show min (idx (place a b q)).toInt.toNat (N - 1) = k.val
    rw [hk, Int.toNat_natCast]
    have := k.isLt
    omega
  unfold Host.gather
  refine congrArg x (funext fun i => Fin.ext ?_)
  match i with
  | ⟨0, _⟩ => exact h0
  | ⟨1, _⟩ => exact h1

end Take

end Cert.Nearest

end
-- ==== Proof.ReferenceDistances.lean ====
/-
  The reference's distances, flags, values and column means over the extended reals, entry by entry.
-/
module

public import proofs.«01_k».proof.Proof.Words
public import proofs.«01_k».proof.Proof.Gen.ReferenceIdeal.Read

@[expose] public section

noncomputable section

namespace Cert.ReferenceIdeal.ReferenceDistances

open Cert.ReferenceIdeal Cert.ReferenceIdeal.Gen Cert.ReferenceIdeal.Read Cert.Impute
open Idealize.ShloMosaic

variable (X : S4096x64.Idx → EReal)

/-- The flag of a missing entry. -/
theorem missing_iff (r : Fin 4096) (c : Fin 64) : val_main_v1 (F := Ideal) X (ix2 r c) = 1#1 ↔ entries X r c = ⊥ := by
  have h : val_main_v1 (F := Ideal) X (ix2 r c) = BitVec.ofBool (decide (X (ix2 r c) = (⊥ : EReal))) := by
    pointwise [val_main_v1, val_main_v0, val_main_cst]
    rw [ofBits_neg_inf]
  rw [h]
  show _ ↔ X (ix2 r c) = ⊥
  by_cases e : X (ix2 r c) = ⊥ <;> simp [e]

theorem known_apply (r : Fin 4096) (c : Fin 64) : val_main_v3 (F := Ideal) X (ix2 r c) = known (entries X) r c := by
  pointwise [val_main_v3, val_main_v2, val_main_v1, val_main_v0, val_main_cst]
  rw [ofBits_neg_inf, uflag_eq]
  rfl

theorem value_apply (r : Fin 4096) (c : Fin 64) : val_main_v4 (F := Ideal) X (ix2 r c) = value (entries X) r c := by
  pointwise [val_main_v4, val_main_call0_v1, val_main_call0_v0, val_main_cst_0, val_main_v1, val_main_v0, val_main_cst]
  rw [ofBits_neg_inf]
  show (if X (ix2 r c) = ⊥ then Ideal.ofBits .f32 0x00000000#32 else X (ix2 r c)) = _
  rw [Ideal.ofBits_zero]
  rfl

theorem overlap_apply (r s : Fin 4096) : val_main_v19 (F := Ideal) X (ix2 r s) = overlap (entries X) r s := by
  pointwise [val_main_v19, val_main_v18]
  simp only [known_apply]
  rfl

theorem square_apply (r s : Fin 4096) : val_main_v15 (F := Ideal) X (ix2 r s) = square (entries X) r s := by
  pointwise [val_main_v15, val_main_v14, val_main_v13, val_main_cst_1, val_main_v12, val_main_v11, val_main_v10, val_main_v9, val_main_v8,
    val_main_v7, val_main_v6, val_main_v5]
  simp only [known_apply, value_apply, ofBits_two]
  rfl

theorem near_apply (r s : Fin 4096) : val_main_v27 (F := Ideal) X (ix2 r s) = near (entries X) r s := by
  pointwise [val_main_v27, val_main_v26, val_main_v25, val_main_v24, val_main_v23, val_main_v22, val_main_v21, val_main_v20, val_main_v17,
    val_main_v16, val_main_cst_2, val_main_cst_3, val_main_cst_4, val_main_cst_5, val_main_cst_6, val_main_call1_v1, val_main_call1_v0]
  simp only [overlap_apply, square_apply, ofBits_64, ofBits_inf]
  rfl

theorem dist_apply (r s : Fin 4096) : val_main_v34 (F := Ideal) X (ix2 r s) = Impute.dist (entries X) r s := by
  have h : val_main_v33 (F := Ideal) (ix2 r s) = 1#1 ↔ r = s := by
    rw [val_main_v33_apply, cmpi_eq_iff]
    rw [val_main_v31_apply, val_main_v32_apply, val_main_v29_apply, val_main_v30_apply, val_main_v28_apply, val_main_v28_apply]
    show BitVec.ofNat 32 r.val = BitVec.ofNat 32 s.val ↔ r = s
    refine ⟨fun e => Fin.ext ?_, fun e => by rw [e]⟩
    have := congrArg BitVec.toInt e
    rw [toInt_ofNat_small r.isLt.le, toInt_ofNat_small s.isLt.le] at this
    exact_mod_cast this
  rw [val_main_v34_apply, select_iff h, near_apply]
  rw [val_main_call2_v1_apply, val_main_call2_v0_apply, val_main_cst_7_apply]
  show (if r = s then Ideal.ofBits .f32 0x7F800000#32 else _) = _
  rw [ofBits_inf]
  rfl

/-- The distance of row `s` from row `r` in column `c`, infinite where the column does not know row `s`. -/
theorem donors_apply (c : Fin 64) (r s : Fin 4096) : val_main_v45 (F := Ideal) X (ix3 c r s) = donors (entries X) r c s := by
  have hf : idx_main_v40 (idx_main_v41 (idx_main_call3_v1 (ix3 c r s))) = ix2 s c := by
    funext a; match a with
    | ⟨0, _⟩ => rfl
    | ⟨1, _⟩ => rfl
  have hd : idx_main_v44 (idx_main_call3_v2 (ix3 c r s)) = ix2 r s := by
    funext a; match a with
    | ⟨0, _⟩ => rfl
    | ⟨1, _⟩ => rfl
  have h : val_main_call3_v1 (F := Ideal) X (ix3 c r s) = 1#1 ↔ 0 < known (entries X) s c := by
    rw [val_main_call3_v1_apply, val_main_v43_apply, val_main_v41_apply, val_main_v40_apply, val_main_v42_apply, val_main_cst_11_apply, hf,
      known_apply]
    show BitVec.ofBool (decide (Ideal.ofBits .f32 0x00000000#32 < _)) = 1#1 ↔ _
    rw [ofBool_iff, Ideal.ofBits_zero]
  rw [val_main_v45_apply, select_iff h]
  rw [val_main_call3_v2_apply, val_main_v44_apply, hd, dist_apply, val_main_call3_v3_apply, val_main_call3_v0_apply, val_main_cst_12_apply]
  show (if _ then _ else Ideal.ofBits .f32 0x7F800000#32) = _
  rw [ofBits_inf]
  rfl

theorem mean_apply (i : S64.Idx) : val_main_v39 (F := Ideal) X i = mean (entries X) (i 0) := by
  have h (k : Fin 4096) : (idx_main_v35 i k : S4096x64.Idx) = ix2 k (i 0) := by
    funext a; match a with
    | ⟨0, _⟩ => rfl
    | ⟨1, _⟩ => rfl
  have h' (k : Fin 4096) : (idx_main_v38 i k : S4096x64.Idx) = ix2 k (i 0) := h k
  have e : ∑ k : Fin 4096, val_main_v4 (F := Ideal) X (idx_main_v38 i k) = ∑ k : Fin 4096, value (entries X) k (i 0) :=
    Finset.sum_congr rfl fun k _ => (congrArg _ (h' k)).trans (value_apply X k (i 0))
  have e' : ∑ k : Fin 4096, val_main_v3 (F := Ideal) X (idx_main_v35 i k) = ∑ k : Fin 4096, known (entries X) k (i 0) :=
    Finset.sum_congr rfl fun k _ => (congrArg _ (h k)).trans (known_apply X k (i 0))
  rw [val_main_v39_apply, val_main_v38_apply, val_main_v37_apply, val_main_v35_apply, val_main_v36_apply, e, e']
  show Ideal.div (Ideal.ofBits .f32 0x00000000#32 + _) (max (Ideal.ofBits .f32 0x00000000#32 + _) (Ideal.ofBits .f32 0x3F800000#32)) = _
  rw [Ideal.ofBits_zero, zero_add, zero_add, ofBits_one]
  rfl

end Cert.ReferenceIdeal.ReferenceDistances

end
-- ==== Proof.ReferenceValue.lean ====
/-
  The reference's result over the extended reals: the table with its missing entries filled from the first five rows of
  the stable sort by distance.
-/
module

public import proofs.«01_k».proof.Proof.Nearest
public import proofs.«01_k».proof.Proof.ReferenceDistances

@[expose] public section

noncomputable section

namespace Cert.ReferenceIdeal.ReferenceValue

open Cert.ReferenceIdeal Cert.ReferenceIdeal.Gen Cert.ReferenceIdeal.Read Cert.ReferenceIdeal.ReferenceDistances Cert.Impute
open Idealize.ShloMosaic Idealize.ShloMosaic.TcCoe Idealize.SL.Sem

section Stages
variable (X : S4096x64.Idx → EReal) (r : Fin 4096) (c : Fin 64)

/-- The row that the sort puts at place `q` for an entry. -/
abbrev pickedRow (q : Fin 5) : Fin 4096 := Selection.sorted (donors (entries X) r c) (q.castLE (by omega))

theorem negated_apply (k : Fin 4096) : val_main_v46 (F := Ideal) X (ix3 c r k) = -donors (entries X) r c k := by
  rw [val_main_v46_apply, donors_apply]
  rfl

theorem values_apply (q : Fin 5) : val_main_values (F := Ideal) X (ix3 c r q) = -donors (entries X) r c (pickedRow X r c q) :=
  (Nearest.topK_apply (by omega) _ _ c r (negated_apply X r c) sliceFits_S64x4096x4096_S64x4096x5 q).1

theorem indices_apply (q : Fin 5) : val_main_indices (F := Ideal) X (ix3 c r q) = BitVec.ofNat 32 (pickedRow X r c q).val :=
  (Nearest.topK_apply (by omega) _ _ c r (negated_apply X r c) sliceFits_S64x4096x4096_S64x4096x5 q).2

/-- A picked row's weight: 1 if its distance is finite, 0 otherwise. -/
theorem weight_apply (q : Fin 5) :
    val_main_v50 (F := Ideal) X (ix3 c r q) = Selection.weight (donors (entries X) r c (pickedRow X r c q)) := by
  rw [val_main_v50_apply, val_main_v49_apply, val_main_v47_apply, values_apply, val_main_v48_apply, val_main_cst_13_apply]
  show (((BitVec.ofBool (decide (- -donors (entries X) r c (pickedRow X r c q) < Ideal.ofBits .f32 0x7F800000#32))).toNat : ℝ) : EReal) = _
  rw [ofBits_inf, neg_neg]
  unfold Selection.weight
  by_cases e : donors (entries X) r c (pickedRow X r c q) = ⊤
  · rw [if_pos e, decide_eq_false (by rw [e]; exact lt_irrefl _)]; simp
  · rw [if_neg e, decide_eq_true (lt_top_iff_ne_top.mpr e)]; simp

/-- The wrapped position is the position itself, which is never negative. -/
theorem wrapped_apply (q : Fin 5) : (val_main_v56 (F := Ideal) X (ix3 c r q) : BitVec 32).toInt = (pickedRow X r c q).val := by
  have hI := toInt_ofNat_small (pickedRow X r c q).isLt.le
  have h : val_main_v53 (F := Ideal) X (ix3 c r q) = 1#1 ↔ False := by
    rw [val_main_v53_apply, indices_apply, val_main_v52_apply, val_main_c_apply]
    show BitVec.ofBool ((BitVec.ofNat 32 (pickedRow X r c q).val).slt 0#32) = 1#1 ↔ False
    have : (BitVec.ofNat 32 (pickedRow X r c q).val).slt 0#32 = false := by
      have h0 : (0#32).toInt = 0 := by decide
      rw [BitVec.slt_eq_decide, hI, h0]
      exact decide_eq_false (not_lt.mpr (Int.natCast_nonneg _))
    rw [this]; decide
  rw [val_main_v56_apply, select_iff h, if_neg not_false, indices_apply]
  exact hI

/-- The picked row's entry. -/
theorem picked_apply (q : Fin 5) : val_main_v58 (F := Ideal) X (ix3 c r q) = value (entries X) (pickedRow X r c q) c := by
  have hi : (idx_main_v57 (Nearest.place c r q) : S64x4096x5.Idx) = ix3 c r q := by
    funext a
    match a with
    | ⟨0, _⟩ => rfl
    | ⟨1, _⟩ => rfl
    | ⟨2, _⟩ => rfl
  have hk : (val_main_v57 (F := Ideal) X (Nearest.place c r q) : BitVec 32).toInt = (pickedRow X r c q).val := by
    rw [val_main_v57_apply, hi]
    exact wrapped_apply X r c q
  have hv (k : Fin 4096) : (idx_main_v51 (ix2 c k) : S4096x64.Idx) = ix2 k c := by
    funext a
    match a with
    | ⟨0, _⟩ => rfl
    | ⟨1, _⟩ => rfl
  refine (Nearest.take_apply gather_S64x4096_S64x4096x5x1_S64x4096x5_n_1_0_0_1_3_11.wf (val_main_v51 (F := Ideal) X) (val_main_v57 (F := Ideal) X)
    c r q (pickedRow X r c q) hk).trans ?_
  rw [val_main_v51_apply, hv, value_apply]

/-- The number of picked rows at a finite distance. -/
theorem total_apply : val_main_v59 (F := Ideal) X (ix2 c r) = ∑ q, Selection.weight (donors (entries X) r c (pickedRow X r c q)) := by
  have h (q : Fin 5) : (idx_main_v59 (ix2 c r) q : S64x4096x5.Idx) = ix3 c r q := by
    funext a
    match a with
    | ⟨0, _⟩ => rfl
    | ⟨1, _⟩ => rfl
    | ⟨2, _⟩ => rfl
  rw [val_main_v59_apply]
  show Ideal.ofBits .f32 0x00000000#32 + _ = _
  rw [Ideal.ofBits_zero, zero_add]
  exact Finset.sum_congr rfl fun q _ => (congrArg _ (h q)).trans (weight_apply X r c q)

/-- The sum of the picked entries at a finite distance. -/
theorem sum_apply : val_main_v63 (F := Ideal) X (ix2 c r)
    = ∑ q, value (entries X) (pickedRow X r c q) c * Selection.weight (donors (entries X) r c (pickedRow X r c q)) := by
  have h (q : Fin 5) : (idx_main_v63 (ix2 c r) q : S64x4096x5.Idx) = ix3 c r q := by
    funext a
    match a with
    | ⟨0, _⟩ => rfl
    | ⟨1, _⟩ => rfl
    | ⟨2, _⟩ => rfl
  rw [val_main_v63_apply]
  show Ideal.ofBits .f32 0x00000000#32 + _ = _
  rw [Ideal.ofBits_zero, zero_add]
  refine Finset.sum_congr rfl fun q _ => (congrArg _ (h q)).trans ?_
  rw [val_main_v62_apply, picked_apply, weight_apply]
  rfl

/-- The filling of an entry. -/
theorem filling_apply : val_main_v68 (F := Ideal) X (ix2 c r)
    = Selection.chosen (donors (entries X) r c) (fun s => value (entries X) s c) (pickedRow X r c) (mean (entries X) c) := by
  have h : val_main_v61 (F := Ideal) X (ix2 c r) = 1#1 ↔ 0 < ∑ q, Selection.weight (donors (entries X) r c (pickedRow X r c q)) := by
    rw [val_main_v61_apply, total_apply, val_main_v60_apply, val_main_cst_16_apply]
    show BitVec.ofBool (decide (Ideal.ofBits .f32 0x00000000#32 < _)) = 1#1 ↔ _
    rw [ofBool_iff, Ideal.ofBits_zero]
  rw [val_main_v68_apply, select_iff h, val_main_v66_apply, sum_apply, val_main_v65_apply, total_apply, val_main_call4_v0_apply,
    val_main_v67_apply, mean_apply]
  show (if _ then Ideal.div _ (max _ (Ideal.ofBits .f32 0x3F800000#32)) else mean (entries X) c) = _
  rw [ofBits_one]
  rfl

/-- The reference's result, entry by entry. -/
theorem result_apply : val_main_v70 (F := Ideal) X (ix2 r c) = bySort (entries X) r c := by
  have h : (idx_main_v69 (ix2 r c) : S64x4096.Idx) = ix2 c r := by
    funext a
    match a with
    | ⟨0, _⟩ => rfl
    | ⟨1, _⟩ => rfl
  rw [val_main_v70_apply, select_iff (missing_iff X r c), val_main_v69_apply, h, filling_apply, value_apply]
  rfl

end Stages

variable (m : (ℓ : Loc nD τ sig) → Buf (Elt Ideal) ℓ) (ρ : Dev nD → PrngReg)

/-- The argument array. -/
abbrev arg (c : Dev nD) : S4096x64.Idx → EReal := m ((c : Thread nD τ).loc main_arg0)

/-- The reference's run: the result array ends as the table filled by the sort, the argument unchanged. -/
theorem run : θ_run defs (onTc (τ := τ) (main (F := Ideal))) ⟨m, fun _ => 0, ρ⟩ fun r => ∀ c : Dev nD,
      r.2.mem ((c : Thread nD τ).loc main_v70) = (fun i : S4096x64.Idx => bySort (entries (arg m c)) (i 0) (i 1))
      ∧ r.2.mem ((c : Thread nD τ).loc main_arg0) = m ((c : Thread nD τ).loc main_arg0) :=
  (θ_run defs _ _).mono (fun r h c => ⟨(h c).1.trans ((val_main_v70_eq m c).trans (funext fun i => by
      obtain ⟨a, b, rfl⟩ : ∃ (a : Fin 4096) (b : Fin 64), i = ix2 a b := ⟨i 0, i 1, eq_ix2 i⟩
      exact result_apply (arg m c) a b)), (h c).2⟩) (Value.run m ρ)

end Cert.ReferenceIdeal.ReferenceValue

end
-- ==== Proof.lean ====
module

public import proofs.«01_k».proof.Proof.Gen.CodedIdeal.Value
public import proofs.«01_k».proof.Proof.Gen.ReferenceIdeal.Run
public import proofs.«01_k».proof.Proof.Gen.ReferenceIdeal.Read
public import proofs.«01_k».proof.Proof.ArrayIdeal
public import proofs.«01_k».proof.Proof.ReferenceValue
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Coded
public import proofs.«01_k».proof.Proof.Gen.Coded.Skeleton
public import proofs.«01_k».proof.Proof.Gen.Coded.Loops
public import proofs.«01_k».proof.Proof.Gen.Coded.Launch
public import proofs.«01_k».proof.Proof.Gen.Coded.Points
public import proofs.«01_k».proof.Proof.Gen.Coded.Frame
public import proofs.«01_k».proof.Proof.Gen.CodedIdeal
public import proofs.«01_k».proof.Proof.Gen.CodedIdeal.Skeleton
public import proofs.«01_k».proof.Proof.Gen.CodedIdeal.Loops
public import proofs.«01_k».proof.Proof.Gen.CodedIdeal.Launch
public import proofs.«01_k».proof.Proof.Gen.CodedIdeal.Points
public import proofs.«01_k».proof.Proof.Gen.CodedIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel (the coded program, over the extended reals) and the reference end with the same table: five rounds of
    taking the nearest row fill every missing entry as the first five rows of the sort do. -/
theorem value [hC : Cert.CodedIdeal.Facts] [hR : Cert.ReferenceIdeal.Facts] : Cert.algebraic_CodedIdeal_ReferenceIdeal := by
  intro m g m' g' _ hagree
  refine ⟨fun c => Cert.CodedIdeal.ArrayIdeal.imputed (Cert.CodedIdeal.ArrayIdeal.arg m c), Cert.CodedIdeal.ArrayIdeal.run m g, ?_⟩
  refine (θ_run Cert.ReferenceIdeal.defs _ _).mono (fun r h c => ⟨(h c).1.trans ?_, (h c).2⟩) (Cert.ReferenceIdeal.ReferenceValue.run m' g')
  have e : Cert.ReferenceIdeal.ReferenceValue.arg m' c = Cert.CodedIdeal.ArrayIdeal.arg m c := hagree c
  rw [e]
  funext i
  exact (Cert.Impute.byRounds_eq_bySort (Cert.Impute.entries (Cert.CodedIdeal.ArrayIdeal.arg m c)) (i 0) (i 1)).symm

/-- The reference runs, leaves its argument unchanged, and declares no semaphore. -/
theorem reference_frame [Cert.ReferenceIdeal.Facts] : Cert.quiescent_ReferenceIdeal := fun m ρ _ =>
  (θ_run Cert.ReferenceIdeal.defs _ _).mono (fun r h => ⟨fun c => (h c).2, sem_eq_zero_of_no_sems (by decide) r.2⟩)
    (Cert.ReferenceIdeal.ReferenceValue.run m ρ)

/-- Every claim of this certificate. -/
theorem claim : Cert.Claim := ⟨Cert.Kernel.Gen.facts, Cert.KernelIdeal.Gen.facts, Cert.Coded.Gen.facts, Cert.CodedIdeal.Gen.facts, Cert.ReferenceIdeal.Gen.facts,
  fun m ρ _ => Cert.Kernel.Gen.frame m ρ,
  fun m ρ _ => Cert.KernelIdeal.Gen.frame m ρ,
  fun m ρ _ => Cert.Coded.Gen.frame m ρ,
  fun m ρ _ => Cert.CodedIdeal.Gen.frame m ρ,
  reference_frame,
  trivial, trivial, value⟩

end Cert.Proof

end
